-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x1024 : Shape := ⟨3, ![16, 256, 1024]⟩
abbrev S16x64 : Shape := ⟨2, ![16, 64]⟩
abbrev S16x64x1024 : Shape := ⟨3, ![16, 64, 1024]⟩
abbrev S16x1x1024 : Shape := ⟨3, ![16, 1, 1024]⟩
abbrev S512x4096 : Shape := ⟨2, ![512, 4096]⟩
abbrev S512x1 : Shape := ⟨2, ![512, 1]⟩
abbrev S512 : Shape := ⟨1, ![512]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S16x64x1024 : S_.BroadcastsInDim S16x64x1024 (![] : Fin 0 → Fin S16x64x1024.rank)
  reducesTo_S16x64x1024_S_d0_1_2 : S16x64x1024.ReducesTo [0, 1, 2] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  main_v18

def fn {F : FTy → Type} [FloatOps F] (main_arg0 : FVec F S16x256x1024 .f32) (main_arg1 : FVec F S16x64 .f32) (main_arg2 : FVec F S16x64x1024 .f32) (main_arg3 : FVec F S16x1x1024 .f32) (main_arg4 : FVec F S512x4096 .f32) (main_arg5 : FVec F S512x1 .f32) (main_arg6 : FVec F S512 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64x1024 .f32 := Host.absf main_arg2
  let main_cst_2 : FVec F S_ .f32 := constant S_ .f32 0x7F800000#32
  let main_v10 : FVec F S16x64x1024 .f32 := broadcastInDim S16x64x1024 ![] bcast_S_S16x64x1024 main_cst_2
  let main_v11 : IVec S16x64x1024 1 := cmpf .olt main_v9 main_v10
  let main_c_3 : IVec S_ 1 := constantI S_ 1 1#1
  let main_v12 : IVec S_ 1 := (fun x v => Host.reduce IntOp.andi x v reducesTo_S16x64x1024_S_d0_1_2 h_S_) main_v11 main_c_3
  let main_v13 : IVec S_ 1 := andi main_v8 main_v12
  let main_v14 : FVec F S512x4096 .f32 := Host.absf main_arg4
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_v13 main_v16
-- ==== Kernel.lean ====
abbrev S16x256x1024 : Shape := ⟨3, ![16, 256, 1024]⟩
abbrev S16x64 : Shape := ⟨2, ![16, 64]⟩
abbrev S16x64x1024 : Shape := ⟨3, ![16, 64, 1024]⟩
abbrev S16x1x1024 : Shape := ⟨3, ![16, 1, 1024]⟩
abbrev S512x4096 : Shape := ⟨2, ![512, 4096]⟩
abbrev S512x1 : Shape := ⟨2, ![512, 1]⟩
abbrev S512 : Shape := ⟨1, ![512]⟩
abbrev S_ : Shape := ⟨0, ![]⟩
abbrev S512x2 : Shape := ⟨2, ![512, 2]⟩
abbrev S3x2x256x1024 : Shape := ⟨4, ![3, 2, 256, 1024]⟩
abbrev S3x2x64x1024 : Shape := ⟨4, ![3, 2, 64, 1024]⟩
abbrev S3 : Shape := ⟨1, ![3]⟩
abbrev S1 : Shape := ⟨1, ![1]⟩
abbrev S1x2x256x1024 : Shape := ⟨4, ![1, 2, 256, 1024]⟩
abbrev S2x256x1024 : Shape := ⟨3, ![2, 256, 1024]⟩
abbrev S1x2x64x1024 : Shape := ⟨4, ![1, 2, 64, 1024]⟩
abbrev S2x64x1024 : Shape := ⟨3, ![2, 64, 1024]⟩
abbrev S1x128 : Shape := ⟨2, ![1, 128]⟩
abbrev S1x1024 : Shape := ⟨2, ![1, 1024]⟩
abbrev S1x1x256x1024 : Shape := ⟨4, ![1, 1, 256, 1024]⟩
abbrev S256x1024 : Shape := ⟨2, ![256, 1024]⟩
abbrev S256 : Shape := ⟨1, ![256]⟩
abbrev S256x1 : Shape := ⟨2, ![256, 1]⟩
abbrev S512x128 : Shape := ⟨2, ![512, 128]⟩
abbrev S1x1 : Shape := ⟨2, ![1, 1]⟩
abbrev S512x130 : Shape := ⟨2, ![512, 130]⟩
abbrev S1x1x64x1024 : Shape := ⟨4, ![1, 1, 64, 1024]⟩
abbrev S64x1024 : Shape := ⟨2, ![64, 1024]⟩
abbrev S1x1x1024 : Shape := ⟨3, ![1, 1, 1024]⟩
abbrev S130x1024 : Shape := ⟨2, ![130, 1024]⟩
abbrev S512x1024 : Shape := ⟨2, ![512, 1024]⟩

abbrev nBuf : Space → Nat
  | .hbm => 17
  | .vmem => 6
  | .smem => 1
  | _ => 0

abbrev bufTy : (tb : Table) → Fin (tcTables nBuf tb) → BufTy
  | .hbm, ⟨0, _⟩ => ⟨S16x256x1024, .f32⟩
  | .hbm, ⟨1, _⟩ => ⟨S16x64, .f32⟩
  | .hbm, ⟨2, _⟩ => ⟨S16x64x1024, .f32⟩
  | .hbm, ⟨3, _⟩ => ⟨S16x1x1024, .f32⟩
  | .hbm, ⟨4, _⟩ => ⟨S512x4096, .f32⟩
  | .hbm, ⟨5, _⟩ => ⟨S512x1, .f32⟩
  | .hbm, ⟨6, _⟩ => ⟨S512, .f32⟩
  | .hbm, ⟨7, _⟩ => ⟨S512x1, .f32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S512x2, .f32⟩
  | .hbm, ⟨16, _⟩ => ⟨S16x256x1024, .f32⟩
  | .local _ .vmem, ⟨0, _⟩ => ⟨S3x2x256x1024, .f32⟩
  | .local _ .vmem, ⟨1, _⟩ => ⟨S3x2x64x1024, .f32⟩
  | .local _ .vmem, ⟨2, _⟩ => ⟨S3x2x256x1024, .f32⟩
  | .local _ .vmem, ⟨3, _⟩ => ⟨S512x4096, .f32⟩
  | .local _ .vmem, ⟨4, _⟩ => ⟨S16x1x1024, .f32⟩
  | .local _ .vmem, ⟨5, _⟩ => ⟨S512x2, .f32⟩
  | .local _ .smem, ⟨0, _⟩ => ⟨S16x64, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .smem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16x256x1024 : Shape := ⟨3, ![16, 256, 1024]⟩
abbrev S16x64 : Shape := ⟨2, ![16, 64]⟩
abbrev S16x64x1024 : Shape := ⟨3, ![16, 64, 1024]⟩
abbrev S16x1x1024 : Shape := ⟨3, ![16, 1, 1024]⟩
abbrev S512x4096 : Shape := ⟨2, ![512, 4096]⟩
abbrev S512x1 : Shape := ⟨2, ![512, 1]⟩
abbrev S512 : Shape := ⟨1, ![512]⟩
abbrev S_ : Shape := ⟨0, ![]⟩
abbrev S16x256 : Shape := ⟨2, ![16, 256]⟩
abbrev S16x256x1 : Shape := ⟨3, ![16, 256, 1]⟩
abbrev S512x64x64 : Shape := ⟨3, ![512, 64, 64]⟩
abbrev S512x64x16 : Shape := ⟨3, ![512, 64, 16]⟩
abbrev S16x512x1024 : Shape := ⟨3, ![16, 512, 1024]⟩
abbrev S512x16x1024 : Shape := ⟨3, ![512, 16, 1024]⟩
abbrev S1x512x1 : Shape := ⟨3, ![1, 512, 1]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x64, .f32⟩
  | .hbm, ⟨2, _⟩ => ⟨S16x64x1024, .f32⟩
  | .hbm, ⟨3, _⟩ => ⟨S16x1x1024, .f32⟩
  | .hbm, ⟨4, _⟩ => ⟨S512x4096, .f32⟩
  | .hbm, ⟨5, _⟩ => ⟨S512x1, .f32⟩
  | .hbm, ⟨6, _⟩ => ⟨S512, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S512x64x64, .f32⟩
  | .hbm, ⟨31, _⟩ => ⟨S512x64x16, .f32⟩
  | .hbm, ⟨32, _⟩ => ⟨S16x512x1024, .f32⟩
  | .hbm, ⟨33, _⟩ => ⟨S512x16x1024, .f32⟩
  | .hbm, ⟨34, _⟩ => ⟨S16x512x1024, .f32⟩
  | .hbm, ⟨35, _⟩ => ⟨S16x512x1024, .f32⟩
  | .hbm, ⟨36, _⟩ => ⟨S1x512x1, .f32⟩
  | .hbm, ⟨37, _⟩ => ⟨S16x512x1024, .f32⟩
  | .hbm, ⟨38, _⟩ => ⟨S16x512x1024, .f32⟩
  | .hbm, ⟨39, _⟩ => ⟨S16x256x1024, .f32⟩
  | .hbm, ⟨40, _⟩ => ⟨S16x256x1024, .f32⟩
  | .hbm, ⟨41, _⟩ => ⟨S_, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Kernel.Frame.lean ====
module

public import proofs.«01_k».proof.Proof.Kernel.Body

@[expose] public section

set_option maxRecDepth 65536

noncomputable section

/-! # The run of the whole program, from the run of its body -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array in HBM that the body writes itself: the result. -/
def R0 : Finset (Ref sig .tc) := {main_v8}
/-- The arrays in HBM that the body's transfers read. -/
def H0 : Finset (Ref sig .tc) := {main_arg0, main_arg2, main_arg3, main_arg4, main_v7}
/-- The arrays that the transfers read are among those that the pipeline leaves to the body. -/
theorem H0_sub : H0 ⊆ Pipeline.restRefs sig spec0 := by decide
/-- So is the result, which is none of those. -/
theorem R0_sub : R0 ⊆ Pipeline.restRefs sig spec0 \ H0 := by decide

set_option maxHeartbeats 800000 in
/-- The program up to the kernel call: the host operations, then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's twelve transfer counters. -/
abbrev osem0 : Fin 12 → SemLoc sig := fun j =>
  (![SemLoc.dma 1, SemLoc.dma 2, SemLoc.dma 3, SemLoc.dma 4, SemLoc.dma 5, SemLoc.dma 6, SemLoc.dma 7, SemLoc.dma 8,
    SemLoc.dma 9, SemLoc.dma 10, SemLoc.dma 11, SemLoc.dma 12] : Fin 12 → SemLoc sig) j
/-- The twelve counters are distinct, and none is the pipeline's own. -/
theorem ownSemFacts0 : Pipeline.OwnSemFacts spec0 osem0 := by decide
/-- The body's counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c 1 ∗ sem0 c 2 ∗ sem0 c 3 ∗ sem0 c 4 ∗ sem0 c 5 ∗ sem0 c 6
          ∗ sem0 c 7 ∗ sem0 c 8 ∗ sem0 c 9 ∗ sem0 c 10 ∗ sem0 c 11 ∗ sem0 c 12) := by
  rw [Pipeline.ownSems0_eq_of_list c osem0 [0, 1, 2, 3, 4, 5, 6, 7, 8, 9, 10, 11] (by decide) (by decide)]; rfl
/-- The arrays the transfers read, one by one. -/
theorem hbmPts0_eq (c : Dev nD) :
    (bigSep H0 (fun b => ((c : Thread nD τ).loc b) ↦{fullShare} V m c b) : sProp 𝕄)
      = iprop(pt c mx (V m c main_arg0) ∗ pt c me (V m c main_arg2) ∗ pt c mt (V m c main_arg3)
          ∗ pt c mW (V m c main_arg4) ∗ pt c mvb (V m c main_v7)) := by
  rw [BI.bigSep_eq_bigSepL_of_eq [main_arg0, main_arg2, main_arg3, main_arg4, main_v7] (by decide) (by decide)]; rfl
/-- The result, whole at some contents. -/
theorem ownedPts0_eq (c : Dev nD) :
    (Pipeline.owned R0 c : sProp 𝕄) = iprop(∃ f, pt (F := F) c mo f) := by
  unfold Pipeline.owned; rw [BI.bigSep_eq_bigSepL_of_eq [main_v8] (by decide) (by decide)]; rfl

/-- What the body needs beside the staged window, one by one. -/
theorem PhiDR0_eq (c : Dev nD) :
    (Pipeline.ΦDR osem0 spec0 H0 R0 (V m) c : sProp 𝕄)
      = iprop(iprop((∃ f, pt c sx f) ∗ (∃ f, pt c se f) ∗ (∃ f, pt c so f) ∗ (∃ f, pt c sW f) ∗ (∃ f, pt c st f) ∗ (∃ f, pt c sv f))
          ∗ (∃ r, prngReg c r)
          ∗ iprop(sem0 c 1 ∗ sem0 c 2 ∗ sem0 c 3 ∗ sem0 c 4 ∗ sem0 c 5 ∗ sem0 c 6
              ∗ sem0 c 7 ∗ sem0 c 8 ∗ sem0 c 9 ∗ sem0 c 10 ∗ sem0 c 11 ∗ sem0 c 12)
          ∗ iprop(pt c mx (V m c main_arg0) ∗ pt c me (V m c main_arg2) ∗ pt c mt (V m c main_arg3)
              ∗ pt c mW (V m c main_arg4) ∗ pt c mvb (V m c main_v7))
          ∗ (∃ f, pt (F := F) c mo f)) := by
  rw [Pipeline.ΦDR_eq, scopedRest0_eq, ownSems00_eq, hbmPts0_eq, ownedPts0_eq]

/-- The proof data of the one pipeline on a core: the arrays as the region finds them, the window's buffer unchanged by the
    body, the invariant above, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ _ := Pipeline.ΦDR osem0 spec0 H0 R0 (V m) c
  q _ := fullShare
  owed _ := 0

/-- The window's array is what the region finds in it. -/
theorem A_eq (c : Dev nD) (w : Fin cfg0.W) : (dats m 0 c).A w = V m c (Pipeline.arrRef spec0 w) := by
  dsimp only [dats]

/-- The body leaves the window's buffer at its block. -/
theorem after0_0 (c : Dev nD) (t : Fin cfg0.N) : (dats m 0 c).after 0 t = iblk m c 0 t := by dsimp only [dats]

/-- The window's staging buffer. -/
abbrev ms0_0 (t : Fin cfg0.N) : Memref sig .tc .smem S16x64 .f32 := win0_0.stage (cfg0.slots t 0)

/-- The window's buffer holds its block before the body. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- What holds before the body: its resources, and the staged block of scalars. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
/-- What holds after the body: the same resources, the result written. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The body takes the invariant and the staged window to themselves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  have hu : (owns (c : Thread nD τ) (ms0_0 t) fullShare (iblk m c 0 t) : sProp 𝕄) = pt c (ms0_0 t) (iblk m c 0 t) := owns_whole ..
  simp only [before0_0, after0_0, hu]
  iintro ⟨⟨⟨⟨%gx, Gx⟩, ⟨%ge, Ge⟩, ⟨%go, Go⟩, ⟨%gW, GW⟩, ⟨%gt, Gt⟩, ⟨%gv, Gv⟩⟩, Hg,
    ⟨S1, S2, S3, S4, S5, S6, S7, S8, S9, S10, S11, S12⟩, ⟨Hx, He, Ht, HW, Hvb⟩, ⟨%fo, Ho⟩⟩, ⟨%W, -, Hw⟩, ⟨%d0, Hu⟩⟩
  iapply ((bodyRun c (ms0_0 t) (hstage0_0 0) (iblk m c 0 t) (V m c main_arg0) (V m c main_arg2) (V m c main_arg3)
    (V m c main_arg4) (V m c main_v7) fo gx ge go gW gt gv).2 W _)
  isplitl [Hu]; · iexact Hu
  isplitl [Hx]; · iexact Hx
  isplitl [He]; · iexact He
  isplitl [Ht]; · iexact Ht
  isplitl [HW]; · iexact HW
  isplitl [Hvb]; · iexact Hvb
  isplitl [Ho]; · iexact Ho
  isplitl [Gx]; · iexact Gx
  isplitl [Ge]; · iexact Ge
  isplitl [Go]; · iexact Go
  isplitl [GW]; · iexact GW
  isplitl [Gt]; · iexact Gt
  isplitl [Gv]; · iexact Gv
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [Hw]; · iexact Hw
  iintro ⟨Hu, Hx, He, Ht, HW, Hvb, Ho, Gx, Ge, Go, GW, Gt, Gv, S1, S2, S3, S4, S5, S6, S7, S8, S9, S10, S11, S12, ⟨%W', Hw⟩⟩
  isplitl [Hx He Ht HW Hvb Ho Gx Ge Go GW Gt Gv S1 S2 S3 S4 S5 S6 S7 S8 S9 S10 S11 S12 Hg]
  · isplitl [Gx Ge Go GW Gt Gv]
    · isplitl [Gx]; · iexact Gx
      isplitl [Ge]; · iexact Ge
      isplitl [Go]; · iexact Go
      isplitl [GW]; · iexact GW
      isplitl [Gt]; · iexact Gt
      iexact Gv
    isplitl [Hg]; · iexact Hg
    isplitl [S1 S2 S3 S4 S5 S6 S7 S8 S9 S10 S11 S12]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hx He Ht HW Hvb]
    · isplitl [Hx]; · iexact Hx
      isplitl [He]; · iexact He
      isplitl [Ht]; · iexact Ht
      isplitl [HW]; · iexact HW
      iexact Hvb
    iexists _; iexact Ho
  isplitl [Hw]
  · iexists W'; isplitr; · ipureintro; exact fun _ _ => Or.inl trivial
    iexact Hw
  iexact Hu

/-- The kernel called at a grid point is the body on its staged window. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to the pipeline's post, every semaphore at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- A run to the pipeline's post leaves the seven arguments as they were. -/
theorem args_of {r : PUnit × MemSt nD τ sig (Elt F)} (h : Pipeline.FramePostR cfgs (dats m) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Finset.mem_sdiff.mpr ⟨Pipeline.mem_restRefs_of main_arg0 (by decide) (by decide), by decide⟩)).trans (V_main_arg0 m c),
    ((h c).1 0).trans (((dats m 0 c).arrAt_in 0 rfl _).trans ((A_eq m c 0).trans (V_main_arg1 m c))),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c),
    ((h c).2 main_arg6 (Finset.mem_sdiff.mpr ⟨Pipeline.mem_restRefs_of main_arg6 (by decide) (by decide), by decide⟩)).trans (V_main_arg6 m c)⟩

/-- The frame: the program terminates without a fault, leaves its seven arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of m h.1 c, h.2⟩) (run_main m ρ)

end Cert.Kernel.Hand

end
-- ==== Proof.KernelIdeal.Body.lean ====
module

public import proofs.«01_k».proof.Proof.Gen.KernelIdeal.Skeleton
public import proofs.«01_k».proof.Proof.Gen.KernelIdeal.Frame
public import Idealize.ShloMosaic.Lib.Pipeline.FrameValue

@[expose] public section

set_option maxRecDepth 65536

noncomputable section

/-! # The run of the kernel's body: transfers in, blocks, transfers out -/

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of a memref's buffer on core `c`. -/
abbrev Bf (c : Dev nD) {sp : Space} {S : Shape} {e : EltTy} (M : Memref sig .tc sp S e) : Type := Buf (Elt F) (M.view.loc (c : Thread nD τ))
/-- Buffer `M` on core `c`, held whole at the contents `f`. -/
abbrev pt (c : Dev nD) {sp : Space} {S : Shape} {e : EltTy} (M : Memref sig .tc sp S e) (f : Bf (F := F) c M) : sProp 𝕄 :=
  M.view.loc (c : Thread nD τ) ↦{fullShare} f

/-- The rows `x`, in HBM. -/
abbrev mx : Memref sig .tc .hbm S16x256x1024 .f32 := Memref.whole main_arg0
/-- The embeddings, in HBM. -/
abbrev me : Memref sig .tc .hbm S16x64x1024 .f32 := Memref.whole main_arg2
/-- The time rows, in HBM. -/
abbrev mt : Memref sig .tc .hbm S16x1x1024 .f32 := Memref.whole main_arg3
/-- The weights `W`, in HBM. -/
abbrev mW : Memref sig .tc .hbm S512x4096 .f32 := Memref.whole main_arg4
/-- The two extra columns of the weights, in HBM. -/
abbrev mvb : Memref sig .tc .hbm S512x2 .f32 := Memref.whole main_v7
/-- The result, in HBM. -/
abbrev mo : Memref sig .tc .hbm S16x256x1024 .f32 := Memref.whole main_v8
/-- The ring of three slots for `x`. -/
abbrev sx : Memref sig .tc .vmem S3x2x256x1024 .f32 := Memref.whole cc0_scratch0
/-- The ring of three slots for the embeddings. -/
abbrev se : Memref sig .tc .vmem S3x2x64x1024 .f32 := Memref.whole cc0_scratch1
/-- The ring of three slots for the result. -/
abbrev so : Memref sig .tc .vmem S3x2x256x1024 .f32 := Memref.whole cc0_scratch2
/-- The scratch copy of `W`. -/
abbrev sW : Memref sig .tc .vmem S512x4096 .f32 := Memref.whole cc0_scratch3
/-- The scratch copy of the time rows. -/
abbrev st : Memref sig .tc .vmem S16x1x1024 .f32 := Memref.whole cc0_scratch4
/-- The scratch copy of the two extra columns. -/
abbrev sv : Memref sig .tc .vmem S512x2 .f32 := Memref.whole cc0_scratch5

/-- Transfer counter `i` of core `c` at zero. -/
abbrev sem0 (c : Dev nD) (i : Fin 13) : sProp 𝕄 := semVal ((c : Thread nD τ), SemLoc.dma i) 0

/-- The body's one run, from any contents of its buffers and every counter at zero: it ends without fault with its six
    inputs unchanged, every counter back at zero and the result at the contents `O`, which the run itself determines. -/
noncomputable def bodyRun (c : Dev nD) (arg0 : Memref sig .tc .smem S16x64 .f32) (harg0 : arg0.IsWhole)
    (fu : Bf (F := F) c arg0) (fx : Bf (F := F) c mx) (fe : Bf (F := F) c me) (ft : Bf (F := F) c mt)
    (fW : Bf (F := F) c mW) (fvb : Bf (F := F) c mvb) (fo : Bf (F := F) c mo)
    (gx : Bf (F := F) c sx) (ge : Bf (F := F) c se) (go : Bf (F := F) c so) (gW : Bf (F := F) c sW) (gt : Bf (F := F) c st) (gv : Bf (F := F) c sv) :
    { O : Bf (F := F) c mo //
      ∀ (W : Waits sig Unit) (K : PUnit → sProp 𝕄),
        iprop(pt c arg0 fu ∗ pt c mx fx ∗ pt c me fe ∗ pt c mt ft ∗ pt c mW fW ∗ pt c mvb fvb ∗ pt c mo fo
            ∗ pt c sx gx ∗ pt c se ge ∗ pt c so go ∗ pt c sW gW ∗ pt c st gt ∗ pt c sv gv
            ∗ sem0 c 1 ∗ sem0 c 2 ∗ sem0 c 3 ∗ sem0 c 4 ∗ sem0 c 5 ∗ sem0 c 6
            ∗ sem0 c 7 ∗ sem0 c 8 ∗ sem0 c 9 ∗ sem0 c 10 ∗ sem0 c 11 ∗ sem0 c 12
            ∗ owes (c : Thread nD τ) 0 W
            ∗ (iprop(pt c arg0 fu ∗ pt c mx fx ∗ pt c me fe ∗ pt c mt ft ∗ pt c mW fW ∗ pt c mvb fvb ∗ pt c mo O
                ∗ (∃ f, pt c sx f) ∗ (∃ f, pt c se f) ∗ (∃ f, pt c so f) ∗ (∃ f, pt c sW f) ∗ (∃ f, pt c st f) ∗ (∃ f, pt c sv f)
                ∗ sem0 c 1 ∗ sem0 c 2 ∗ sem0 c 3 ∗ sem0 c 4 ∗ sem0 c 5 ∗ sem0 c 6
                ∗ sem0 c 7 ∗ sem0 c 8 ∗ sem0 c 9 ∗ sem0 c 10 ∗ sem0 c 11 ∗ sem0 c 12
                ∗ (∃ W', owes (c : Thread nD τ) 0 W')) -∗ K ⟨⟩))
          ⊢ wp frame (wpE (defs₀ (F := F)) Variants.none c none) Set.univ
              (cc0_adain_fused arg0 harg0 mx (Memref.isWhole_whole _) me (Memref.isWhole_whole _) mW (Memref.isWhole_whole _)
                mt (Memref.isWhole_whole _) mvb (Memref.isWhole_whole _) mo (Memref.isWhole_whole _)
                sx (Memref.isWhole_whole _) se (Memref.isWhole_whole _) so (Memref.isWhole_whole _)
                sW (Memref.isWhole_whole _) st (Memref.isWhole_whole _) sv (Memref.isWhole_whole _)
                cc0_scratch6 cc0_scratch7 cc0_scratch8 cc0_scratch9 cc0_scratch10 cc0_scratch11) K } := by
  refine ⟨?_, fun W K => ?run⟩
  case run =>
    iintro ⟨Hu, Hx, He, Ht, HW, Hvb, Ho, Gx, Ge, Go, GW, Gt, Gv, S1, S2, S3, S4, S5, S6, S7, S8, S9, S10, S11, S12, Hw, Hk⟩
    set_option sl_exec.dmaWindow true in
    sl_exec_parts!
    sl_step
    iapply Hk
    isplitl [Hu]; · iexact Hu
    isplitl [Hx]; · iexact Hx
    isplitl [He]; · iexact He
    isplitl [Ht]; · iexact Ht
    isplitl [HW]; · iexact HW
    isplitl [Hvb]; · iexact Hvb
    isplitl [Ho]; · iexact Ho
    isplitl [Gx]; · iexists _; iexact Gx
    isplitl [Ge]; · iexists _; iexact Ge
    isplitl [Go]; · iexists _; iexact Go
    isplitl [GW]; · iexists _; iexact GW
    isplitl [Gt]; · iexists _; iexact Gt
    isplitl [Gv]; · iexists _; iexact Gv
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexists _; iexact Hw

end Cert.KernelIdeal.Hand

end
-- ==== Proof.KernelIdeal.Frame.lean ====
module

public import proofs.«01_k».proof.Proof.KernelIdeal.Body

@[expose] public section

set_option maxRecDepth 65536

noncomputable section

/-! # The run of the whole program, from the run of its body -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array in HBM that the body writes itself: the result. -/
def R0 : Finset (Ref sig .tc) := {main_v8}
/-- The arrays in HBM that the body's transfers read. -/
def H0 : Finset (Ref sig .tc) := {main_arg0, main_arg2, main_arg3, main_arg4, main_v7}
/-- The arrays that the transfers read are among those that the pipeline leaves to the body. -/
theorem H0_sub : H0 ⊆ Pipeline.restRefs sig spec0 := by decide
/-- So is the result, which is none of those. -/
theorem R0_sub : R0 ⊆ Pipeline.restRefs sig spec0 \ H0 := by decide

set_option maxHeartbeats 800000 in
/-- The program up to the kernel call: the host operations, then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's twelve transfer counters. -/
abbrev osem0 : Fin 12 → SemLoc sig := fun j =>
  (![SemLoc.dma 1, SemLoc.dma 2, SemLoc.dma 3, SemLoc.dma 4, SemLoc.dma 5, SemLoc.dma 6, SemLoc.dma 7, SemLoc.dma 8,
    SemLoc.dma 9, SemLoc.dma 10, SemLoc.dma 11, SemLoc.dma 12] : Fin 12 → SemLoc sig) j
/-- The twelve counters are distinct, and none is the pipeline's own. -/
theorem ownSemFacts0 : Pipeline.OwnSemFacts spec0 osem0 := by decide
/-- The body's counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(sem0 c 1 ∗ sem0 c 2 ∗ sem0 c 3 ∗ sem0 c 4 ∗ sem0 c 5 ∗ sem0 c 6
          ∗ sem0 c 7 ∗ sem0 c 8 ∗ sem0 c 9 ∗ sem0 c 10 ∗ sem0 c 11 ∗ sem0 c 12) := by
  rw [Pipeline.ownSems0_eq_of_list c osem0 [0, 1, 2, 3, 4, 5, 6, 7, 8, 9, 10, 11] (by decide) (by decide)]; rfl
/-- The arrays the transfers read, one by one. -/
theorem hbmPts0_eq (c : Dev nD) :
    (bigSep H0 (fun b => ((c : Thread nD τ).loc b) ↦{fullShare} V m c b) : sProp 𝕄)
      = iprop(pt c mx (V m c main_arg0) ∗ pt c me (V m c main_arg2) ∗ pt c mt (V m c main_arg3)
          ∗ pt c mW (V m c main_arg4) ∗ pt c mvb (V m c main_v7)) := by
  rw [BI.bigSep_eq_bigSepL_of_eq [main_arg0, main_arg2, main_arg3, main_arg4, main_v7] (by decide) (by decide)]; rfl
/-- The contents of the buffers at the end: the result at `G`, every other buffer as the kernel call found it. -/
def Gc (G : (c : Dev nD) → Bf (F := F) c mo) (c : Dev nD) (b : Ref sig .tc) : Buf (Elt F) ((c : Thread nD τ).loc b) :=
  if h : b = main_v8 then h ▸ G c else V m c b
/-- The result ends at `G`. -/
theorem Gc_main_v8 (G : (c : Dev nD) → Bf (F := F) c mo) (c : Dev nD) : Gc m G c main_v8 = G c := by
  unfold Gc; rw [dif_pos rfl]

/-- What the body needs beside the staged window, one by one, the result at the contents `W`. -/
theorem PhiDR0_eq (W : (c : Dev nD) → (b : Ref sig .tc) → Buf (Elt F) ((c : Thread nD τ).loc b)) (c : Dev nD) :
    (Pipeline.ΦDRG osem0 spec0 H0 R0 (V m) W c : sProp 𝕄)
      = iprop(iprop((∃ f, pt c sx f) ∗ (∃ f, pt c se f) ∗ (∃ f, pt c so f) ∗ (∃ f, pt c sW f) ∗ (∃ f, pt c st f) ∗ (∃ f, pt c sv f))
          ∗ (∃ r, prngReg c r)
          ∗ iprop(sem0 c 1 ∗ sem0 c 2 ∗ sem0 c 3 ∗ sem0 c 4 ∗ sem0 c 5 ∗ sem0 c 6
              ∗ sem0 c 7 ∗ sem0 c 8 ∗ sem0 c 9 ∗ sem0 c 10 ∗ sem0 c 11 ∗ sem0 c 12)
          ∗ iprop(pt c mx (V m c main_arg0) ∗ pt c me (V m c main_arg2) ∗ pt c mt (V m c main_arg3)
              ∗ pt c mW (V m c main_arg4) ∗ pt c mvb (V m c main_v7))
          ∗ pt (F := F) c mo (W c main_v8)) := by
  rw [Pipeline.ΦDRG_eq, scopedRest0_eq, ownSems00_eq, hbmPts0_eq, R0, Pipeline.routed_singleton]

variable (G : (c : Dev nD) → Bf (F := F) c mo)

/-- The proof data of the one pipeline on a core: the arrays as the region finds them, the window's buffer unchanged by the
    body, the invariant above with the result as found before the one point and at `G` after it, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRG osem0 spec0 H0 R0 (V m) (if t = 0 then V m else Gc m G) c
  q _ := fullShare
  owed _ := 0

/-- The window's array is what the region finds in it. -/
theorem A_eq (c : Dev nD) (w : Fin cfg0.W) : (dats m G 0 c).A w = V m c (Pipeline.arrRef spec0 w) := by
  dsimp only [dats]

/-- The body leaves the window's buffer at its block. -/
theorem after0_0 (c : Dev nD) (t : Fin cfg0.N) : (dats m G 0 c).after 0 t = iblk m c 0 t := by dsimp only [dats]

/-- Before a grid point the result is as the region found it. -/
theorem Phi_castSucc (c : Dev nD) (t : Fin cfg0.N) :
    (dats m G 0 c).Φ t.castSucc = Pipeline.ΦDRG osem0 spec0 H0 R0 (V m) (V m) c := by
  dsimp only [dats]; rw [if_pos]; rw [show t = t0_0 from Gen.fin_N0 t]; rfl
/-- After a grid point the result is at `G`. -/
theorem Phi_succ (c : Dev nD) (t : Fin cfg0.N) :
    (dats m G 0 c).Φ t.succ = Pipeline.ΦDRG osem0 spec0 H0 R0 (V m) (Gc m G) c := by
  dsimp only [dats]; rw [if_neg (Fin.succ_ne_zero t)]

/-- At the start the result is as the region found it. -/
theorem Phi_zero (c : Dev nD) : (dats m G 0 c).Φ 0 = Pipeline.ΦDRG osem0 spec0 H0 R0 (V m) (V m) c := by
  dsimp only [dats]; rw [if_pos rfl]
/-- At the end the result is at `G`. -/
theorem Phi_last (c : Dev nD) :
    (dats m G 0 c).Φ (Fin.last cfg0.N) = Pipeline.ΦDRG osem0 spec0 H0 R0 (V m) (Gc m G) c := by
  dsimp only [dats]; rw [if_neg (by rw [Fin.ext_iff]; exact Nat.one_ne_zero)]

/-- The window's staging buffer. -/
abbrev ms0_0 (t : Fin cfg0.N) : Memref sig .tc .smem S16x64 .f32 := win0_0.stage (cfg0.slots t 0)

/-- The window's buffer holds its block before the body. -/
theorem before0_0 (c : Dev nD) (t : Fin cfg0.N) (d) : (dats m G 0 c).before 0 t d = iblk m c 0 t :=
  ((dats m G 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- What holds before the body: its resources, and the staged block of scalars. -/
def bodyPre (c : Dev nD) (t : Fin cfg0.N) : sProp 𝕄 :=
  iprop((dats m G 0 c).Φ t.castSucc ∗ (dats m G 0 c).owesAt () t.castSucc
    ∗ (∃ d, owns (c : Thread nD τ) (ms0_0 t) fullShare ((dats m G 0 c).before 0 t d)))
/-- What holds after the body: the same resources, the result written. -/
def bodyPost (c : Dev nD) (t : Fin cfg0.N) : sProp 𝕄 :=
  iprop((dats m G 0 c).Φ t.succ ∗ (dats m G 0 c).owesAt () t.succ
    ∗ owns (c : Thread nD τ) (ms0_0 t) fullShare ((dats m G 0 c).after 0 t))

/-- What the body leaves in the result, whatever the result and the scratch buffers held, is `G`. -/
abbrev Leaves : Prop := ∀ (c : Dev nD) (t : Fin cfg0.N) (fo : Bf (F := F) c mo) (gx : Bf (F := F) c sx) (ge : Bf (F := F) c se)
  (go : Bf (F := F) c so) (gW : Bf (F := F) c sW) (gt : Bf (F := F) c st) (gv : Bf (F := F) c sv),
  (bodyRun c (ms0_0 t) (hstage0_0 0) (iblk m c 0 t) (V m c main_arg0) (V m c main_arg2) (V m c main_arg3)
    (V m c main_arg4) (V m c main_v7) fo gx ge go gW gt gv).1 = G c

variable (hG : Leaves m G)

include hG in
/-- The body takes the invariant and the staged window to themselves. -/
theorem sound_body (c : Dev nD) (t : Fin cfg0.N) :
    bodyPre m G c t ⊢ wp frame (wpE (defs₀ (F := F)) Variants.none c none) Set.univ (bodyAt0 t) (fun _ => bodyPost m G c t) := by
  unfold bodyPre bodyPost bodyAt0
  rw [Phi_castSucc, Phi_succ, PhiDR0_eq m (V m) c, PhiDR0_eq m (Gc m G) c, Gc_main_v8]
  unfold Dat.owesAt Pipeline.owesWithin
  rw [show (dats m G 0 c).owed t.castSucc = 0 from rfl, show (dats m G 0 c).owed t.succ = 0 from rfl]
  have hu : (owns (c : Thread nD τ) (ms0_0 t) fullShare (iblk m c 0 t) : sProp 𝕄) = pt c (ms0_0 t) (iblk m c 0 t) := owns_whole ..
  simp only [before0_0, after0_0, hu]
  iintro ⟨⟨⟨⟨%gx, Gx⟩, ⟨%ge, Ge⟩, ⟨%go, Go⟩, ⟨%gW, GW⟩, ⟨%gt, Gt⟩, ⟨%gv, Gv⟩⟩, Hg,
    ⟨S1, S2, S3, S4, S5, S6, S7, S8, S9, S10, S11, S12⟩, ⟨Hx, He, Ht, HW, Hvb⟩, Ho⟩, ⟨%W, -, Hw⟩, ⟨%d0, Hu⟩⟩
  iapply ((bodyRun c (ms0_0 t) (hstage0_0 0) (iblk m c 0 t) (V m c main_arg0) (V m c main_arg2) (V m c main_arg3)
    (V m c main_arg4) (V m c main_v7) (V m c main_v8) gx ge go gW gt gv).2 W _)
  isplitl [Hu]; · iexact Hu
  isplitl [Hx]; · iexact Hx
  isplitl [He]; · iexact He
  isplitl [Ht]; · iexact Ht
  isplitl [HW]; · iexact HW
  isplitl [Hvb]; · iexact Hvb
  isplitl [Ho]; · iexact Ho
  isplitl [Gx]; · iexact Gx
  isplitl [Ge]; · iexact Ge
  isplitl [Go]; · iexact Go
  isplitl [GW]; · iexact GW
  isplitl [Gt]; · iexact Gt
  isplitl [Gv]; · iexact Gv
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [Hw]; · iexact Hw
  iintro ⟨Hu, Hx, He, Ht, HW, Hvb, Ho, Gx, Ge, Go, GW, Gt, Gv, S1, S2, S3, S4, S5, S6, S7, S8, S9, S10, S11, S12, ⟨%W', Hw⟩⟩
  isplitl [Hx He Ht HW Hvb Ho Gx Ge Go GW Gt Gv S1 S2 S3 S4 S5 S6 S7 S8 S9 S10 S11 S12 Hg]
  · isplitl [Gx Ge Go GW Gt Gv]
    · isplitl [Gx]; · iexact Gx
      isplitl [Ge]; · iexact Ge
      isplitl [Go]; · iexact Go
      isplitl [GW]; · iexact GW
      isplitl [Gt]; · iexact Gt
      iexact Gv
    isplitl [Hg]; · iexact Hg
    isplitl [S1 S2 S3 S4 S5 S6 S7 S8 S9 S10 S11 S12]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hx He Ht HW Hvb]
    · isplitl [Hx]; · iexact Hx
      isplitl [He]; · iexact He
      isplitl [Ht]; · iexact Ht
      isplitl [HW]; · iexact HW
      iexact Hvb
    rw [hG]; iexact Ho
  isplitl [Hw]
  · iexists W'; isplitr; · ipureintro; exact fun _ _ => Or.inl trivial
    iexact Hw
  iexact Hu

/-- The kernel called at a grid point is the body on its staged window. -/
theorem defs₀_row (t : Fin cfg0.N) :
    defs₀ (F := F) .tc cfg0.body (cfg0.bodyArgs t (cfg0.slots t)) = bodyAt0 t := by
  unfold defs₀; rw [Defs.onTc_tc]

include hG in
/-- The body meets what the pipeline asks of it at every grid point. -/
theorem body_obligation (c : Dev nD) : BodyObligation (dats (F := F) m G 0 c) (defs₀ (F := F)) Variants.none () Set.univ := fun t => by
  rw [bigSep_W0, bigSep_W0, defs₀_row]
  exact triple_restated (sound_body m G hG c t) rfl .rfl fun _ => .rfl

include hG in
set_option backward.isDefEq.respectTransparency.types false in
/-- The whole program runs to the pipeline's post, every semaphore at zero. -/
theorem run_main : θ_run defs (onTc (τ := τ) (main (F := F))) (s₀ m ρ) (fun r => Pipeline.FramePostRG cfgs (dats m G) 0 R0 (V m) (Gc m G) r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (hmain := hmain m Variants.none) (hA := A_eq m G)
    (G := Gc m G) (hin := fun c => by rw [Phi_zero]) (hout := fun c => by rw [Phi_last])

/-- A run to the pipeline's post leaves the seven arguments as they were. -/
theorem args_of {r : PUnit × MemSt nD τ sig (Elt F)} (h : Pipeline.FramePostR cfgs (dats m G) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Finset.mem_sdiff.mpr ⟨Pipeline.mem_restRefs_of main_arg0 (by decide) (by decide), by decide⟩)).trans (V_main_arg0 m c),
    ((h c).1 0).trans (((dats m G 0 c).arrAt_in 0 rfl _).trans ((A_eq m G c 0).trans (V_main_arg1 m c))),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c),
    ((h c).2 main_arg6 (Finset.mem_sdiff.mpr ⟨Pipeline.mem_restRefs_of main_arg6 (by decide) (by decide), by decide⟩)).trans (V_main_arg6 m c)⟩

include hG in
/-- The run: the program terminates without a fault, leaves `G` in its result and its seven arguments as they were, and every
    semaphore at zero. -/
theorem run : θ_run defs (onTc (τ := τ) (main (F := F))) ⟨m, fun _ => 0, ρ⟩ (fun r => (∀ c : Dev nD,
      r.2.mem ((c.tc : Thread nD τ).loc main_v8) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.written c (b := main_v8) (by decide)).trans (Gc_main_v8 m G c), args_of m G h.1.toR c⟩, h.2⟩)
    (run_main m ρ G hG)

end Cert.KernelIdeal.Hand

end
-- ==== Proof.KernelIdeal.Block.lean ====
module

public import proofs.«01_k».proof.Proof.KernelIdeal.Body

@[expose] public section

set_option maxRecDepth 65536

noncomputable section

/-! # What the body stores and transfers, written as recursions over its stores and transfers -/

namespace Cert.KernelIdeal.Hand

open Cert.KernelIdeal Cert.KernelIdeal.Gen
open Idealize.ShloMosaic Idealize.ShloMosaic.TcCoe Idealize.ShloMosaic.Tactic

variable {F : FTy → Type} [FloatOps F]

/-! ## One batch element's block, from what the kernel loads -/

/-- The lane numbers 0 to 127. -/
abbrev lanes : IVec S1x128 32 := iota Kind.tc S1x128 32 [1] iota_S1x128_d1_w32

/-- One step of the weight mix: add a 128-column chunk of `W`, its lanes below 64 scaled by `a`, the others by `b`. -/
def stepW (acc : FVec F S512x128 .f32) (a b : Elt F .f32) (w : Vec F S512x128 .f32) : FVec F S512x128 .f32 :=
  addf acc (mulf w (broadcastTo S512x128 (select (cmpi .slt lanes (broadcast S1x128 64#32)) (broadcast S1x128 a) (broadcast S1x128 b))
    broadcasts_S1x128_S512x128))

/-- The weight mix after `n` chunks, from zero. -/
def accW (u : Fin 64 → Elt F .f32) (w : Fin 32 → Vec F S512x128 .f32) (n : ℕ) : n ≤ 32 → FVec F S512x128 .f32 :=
  Nat.rec (motive := fun n => n ≤ 32 → FVec F S512x128 .f32) (fun _ => broadcast S512x128 (Scalar.ofBits .f32 0x00000000#32))
    (fun k ih h => stepW (ih (Nat.le_of_succ_le h)) (u ⟨2 * k, by omega⟩) (u ⟨2 * k + 1, by omega⟩) (w ⟨k, h⟩)) n

/-- One batch element's block: the normalised rows of `x`, scaled and shifted by the two halves of one product. -/
def blk (x : Vec F S1x1x256x1024 .f32) (u : Fin 64 → Elt F .f32) (w : Fin 32 → Vec F S512x128 .f32) (vb : Vec F S512x2 .f32)
    (e : Vec F S1x1x64x1024 .f32) (t : Vec F S1x1x1024 .f32) : FVec F S1x1x256x1024 .f32 :=
  k0_pay22 k0_pay1 (k0_pay2 x) (k0_pay3 x) (k0_pay4 x) (accW u w 31 (by omega))
    (k0_pay21 lanes (u 62) (u 63)) (w 31) vb e e t

/-! ## The scratch buffers while the kernel runs -/

/-- A rectangle that selects along the first two of four axes lies inside the buffer. -/
theorem inb4 {s j a b A B p q : ℕ} (hs : s + p ≤ A) (hj : j + q ≤ B) :
    ∀ d, (![s, j, 0, 0] : Fin 4 → ℕ) d + (⟨4, ![p, q, a, b]⟩ : Shape).size d ≤ (⟨4, ![A, B, a, b]⟩ : Shape).size d := by
  intro d; fin_cases d <;> simp <;> omega
/-- A rectangle that selects along the first of three axes lies inside the buffer. -/
theorem inb3 {s a b A p : ℕ} (hs : s + p ≤ A) :
    ∀ d, (![s, 0, 0] : Fin 3 → ℕ) d + (⟨3, ![p, a, b]⟩ : Shape).size d ≤ (⟨3, ![A, a, b]⟩ : Shape).size d := by
  intro d; fin_cases d <;> simp <;> omega
/-- A rectangle that selects along both axes of a matrix lies inside it. -/
theorem inb2 {s j A B p q : ℕ} (hs : s + p ≤ A) (hj : j + q ≤ B) :
    ∀ d, (![s, j] : Fin 2 → ℕ) d + (⟨2, ![p, q]⟩ : Shape).size d ≤ (⟨2, ![A, B]⟩ : Shape).size d := by
  intro d; fin_cases d <;> simp <;> omega
/-- Each of the eight transfers covers two of the sixteen batch elements. -/
theorem chunk_le {n : ℕ} (h : n < 8) : 2 * n + 2 ≤ 16 := by omega
/-- Transfer `n` uses one of the three slots. -/
theorem slot_lt (n : ℕ) : n % 3 < 3 := Nat.mod_lt _ (by decide)
/-- No more than eight transfers have landed. -/
theorem ring_le (i : ℕ) : min (i + 3) 8 ≤ 8 := Nat.min_le_right _ _
/-- Batch element `2 * i + j` is one of the sixteen. -/
theorem batch_lt {i j : ℕ} (hi : i < 8) (hj : j < 2) : 2 * i + j < 16 := by omega
/-- Each of the 32 column chunks lies inside `W`. -/
theorem col_le (k : Fin 32) : 128 * k.val + 128 ≤ 4096 := by omega
/-- A one-by-one block has an element. -/
theorem one_pos : 0 < S1x1.numel := by decide

/-- Slot `s` of the two rings, as a transfer writes it. -/
abbrev xslot (s : ℕ) (h : s < 3) : Memref sig .tc .vmem S2x256x1024 .f32 :=
  (sx.slice (Rect.unit (s := S3x2x256x1024) ![s, 0, 0, 0] S1x2x256x1024.size (inb4 h (Nat.le_refl 2))) (fun _ => rfl)).squeeze
    S2x256x1024 squeezes_S1x2x256x1024_S2x256x1024
/-- Slot `s` of the embeddings' ring, as a transfer writes it. -/
abbrev eslot (s : ℕ) (h : s < 3) : Memref sig .tc .vmem S2x64x1024 .f32 :=
  (se.slice (Rect.unit (s := S3x2x64x1024) ![s, 0, 0, 0] S1x2x64x1024.size (inb4 h (Nat.le_refl 2))) (fun _ => rfl)).squeeze
    S2x64x1024 squeezes_S1x2x64x1024_S2x64x1024
/-- Two batch elements of `x`, and of the embeddings, as a transfer reads them. -/
def xchunk (c : Dev nD) (fx : Bf (F := F) c mx) (n : ℕ) (h : n < 8) : Vec F S2x256x1024 .f32 :=
  ReadAs.same.apply (View.read (Elt F) (mx.slice (Rect.unit (s := S16x256x1024) ![2 * n, 0, 0] S2x256x1024.size (inb3 (chunk_le h))) (fun _ => rfl)).view fx)
/-- Two batch elements of the embeddings, as a transfer reads them. -/
def echunk (c : Dev nD) (fe : Bf (F := F) c me) (n : ℕ) (h : n < 8) : Vec F S2x64x1024 .f32 :=
  ReadAs.same.apply (View.read (Elt F) (me.slice (Rect.unit (s := S16x64x1024) ![2 * n, 0, 0] S2x64x1024.size (inb3 (chunk_le h))) (fun _ => rfl)).view fe)

/-- The two rings after the first `n` transfers, transfer `k` into slot `k` modulo 3. -/
def xring (c : Dev nD) (fx : Bf (F := F) c mx) (gx : Bf (F := F) c sx) (n : ℕ) : n ≤ 8 → Bf (F := F) c sx :=
  Nat.rec (motive := fun n => n ≤ 8 → Bf (F := F) c sx) (fun _ => gx)
    (fun k ih h => View.write (Elt F) (xslot (k % 3) (slot_lt k)).view (ih (Nat.le_of_succ_le h)) (xchunk c fx k h) Finset.univ) n
/-- The embeddings' ring after the first `n` transfers. -/
def ering (c : Dev nD) (fe : Bf (F := F) c me) (ge : Bf (F := F) c se) (n : ℕ) : n ≤ 8 → Bf (F := F) c se :=
  Nat.rec (motive := fun n => n ≤ 8 → Bf (F := F) c se) (fun _ => ge)
    (fun k ih h => View.write (Elt F) (eslot (k % 3) (slot_lt k)).view (ih (Nat.le_of_succ_le h)) (echunk c fe k h) Finset.univ) n

/-- The loads of the body: a batch element's rows out of the ring, its embeddings, its weights, and the arrays copied in whole. -/
def xld (c : Dev nD) (fx : Bf (F := F) c mx) (gx : Bf (F := F) c sx) (i j : ℕ) (hi : i < 8) (hj : j < 2) : Vec F S1x1x256x1024 .f32 :=
  View.readAt (Elt F) sx.view (Rect.unit (s := S3x2x256x1024) ![i % 3, j, 0, 0] S1x1x256x1024.size (inb4 (slot_lt i) hj)).toLoadRect
    (xring c fx gx (min (i + 3) 8) (ring_le i))
/-- A batch element's embeddings, loaded out of their ring. -/
def eld (c : Dev nD) (fe : Bf (F := F) c me) (ge : Bf (F := F) c se) (i j : ℕ) (hi : i < 8) (hj : j < 2) : Vec F S1x1x64x1024 .f32 :=
  View.readAt (Elt F) se.view (Rect.unit (s := S3x2x64x1024) ![i % 3, j, 0, 0] S1x1x64x1024.size (inb4 (slot_lt i) hj)).toLoadRect
    (ering c fe ge (min (i + 3) 8) (ring_le i))
/-- Scalar `k` of batch element `b`, loaded. -/
def uld (c : Dev nD) (arg0 : Memref sig .tc .smem S16x64 .f32) (fu : Bf (F := F) c arg0) (b : ℕ) (hb : b < 16) (k : Fin 64) : Elt F .f32 :=
  View.readAt (Elt F) arg0.view (Rect.unit (s := S16x64) ![b, k.val] S1x1.size (inb2 hb k.isLt)).toLoadRect fu (Shape.Idx.first one_pos)
/-- Column chunk `k` of `W`, loaded out of its scratch copy. -/
def wld (c : Dev nD) (fW : Bf (F := F) c mW) (gW : Bf (F := F) c sW) (k : Fin 32) : Vec F S512x128 .f32 :=
  View.readAt (Elt F) sW.view (Rect.unit (s := S512x4096) ![0, 128 * k.val] S512x128.size (inb2 (Nat.le_refl 512) (col_le k))).toLoadRect
    (View.write (Elt F) sW.view gW (ReadAs.same.apply (View.read (Elt F) mW.view fW)) Finset.univ)
/-- The two extra columns, loaded out of their scratch copy. -/
def vld (c : Dev nD) (fvb : Bf (F := F) c mvb) (gv : Bf (F := F) c sv) : Vec F S512x2 .f32 :=
  View.readAt (Elt F) sv.view (Rect.unit (s := S512x2) ![0, 0] S512x2.size inb_S512x2_S512x2_0_0).toLoadRect
    (View.write (Elt F) sv.view gv (ReadAs.same.apply (View.read (Elt F) mvb.view fvb)) Finset.univ)
/-- The time row of batch element `b`, loaded out of its scratch copy. -/
def tld (c : Dev nD) (ft : Bf (F := F) c mt) (gt : Bf (F := F) c st) (b : ℕ) (hb : b < 16) : Vec F S1x1x1024 .f32 :=
  View.readAt (Elt F) st.view (Rect.unit (s := S16x1x1024) ![b, 0, 0] S1x1x1024.size (inb3 hb)).toLoadRect
    (View.write (Elt F) st.view gt (ReadAs.same.apply (View.read (Elt F) mt.view ft)) Finset.univ)

/-- The block stored for batch element `2 * i + j`. -/
def pay (c : Dev nD) (arg0 : Memref sig .tc .smem S16x64 .f32) (fu : Bf (F := F) c arg0) (fx : Bf (F := F) c mx) (fe : Bf (F := F) c me)
    (ft : Bf (F := F) c mt) (fW : Bf (F := F) c mW) (fvb : Bf (F := F) c mvb)
    (gx : Bf (F := F) c sx) (ge : Bf (F := F) c se) (gW : Bf (F := F) c sW) (gt : Bf (F := F) c st) (gv : Bf (F := F) c sv)
    (i j : ℕ) (hi : i < 8) (hj : j < 2) : FVec F S1x1x256x1024 .f32 :=
  blk (xld c fx gx i j hi hj) (uld c arg0 fu (2 * i + j) (batch_lt hi hj)) (wld c fW gW) (vld c fvb gv) (eld c fe ge i j hi hj)
    (tld c ft gt (2 * i + j) (batch_lt hi hj))

section
variable (c : Dev nD) (arg0 : Memref sig .tc .smem S16x64 .f32) (harg0 : arg0.IsWhole) (fu : Bf (F := F) c arg0) (fx : Bf (F := F) c mx) (fe : Bf (F := F) c me)
    (ft : Bf (F := F) c mt) (fW : Bf (F := F) c mW) (fvb : Bf (F := F) c mvb) (fo : Bf (F := F) c mo)
    (gx : Bf (F := F) c sx) (ge : Bf (F := F) c se) (go : Bf (F := F) c so) (gW : Bf (F := F) c sW) (gt : Bf (F := F) c st) (gv : Bf (F := F) c sv)

/-- Store `p` belongs to one of the eight chunks. -/
theorem half_lt {p : ℕ} (h : p < 16) : p / 2 < 8 := by omega
/-- Store `p` goes to one of the two halves of a slot. -/
theorem par_lt (p : ℕ) : p % 2 < 2 := Nat.mod_lt _ (by decide)
/-- Chunk `n` is filled by two of the sixteen stores. -/
theorem two_le {n : ℕ} (h : n < 8) : 2 * n + 2 ≤ 16 := by omega

/-- The stores into the output ring for the first `n` batch elements, the latest first. -/
def gos (n : ℕ) : n ≤ 16 → List (View.Piece (Elt F) S3x2x256x1024 .f32) :=
  Nat.rec (motive := fun n => n ≤ 16 → List (View.Piece (Elt F) S3x2x256x1024 .f32)) (fun _ => [])
    (fun p ih h => ⟨Rect.unit (s := S3x2x256x1024) ![p / 2 % 3, p % 2, 0, 0] S1x1x256x1024.size (inb4 (slot_lt _) (par_lt p)),
      pay c arg0 fu fx fe ft fW fvb gx ge gW gt gv (p / 2) (p % 2) (half_lt h) (par_lt p)⟩ :: ih (Nat.le_of_succ_le h)) n

/-- Slot `s` of the output ring, as a transfer reads it. -/
abbrev oslot (s : ℕ) (h : s < 3) : Memref sig .tc .vmem S2x256x1024 .f32 :=
  (so.slice (Rect.unit (s := S3x2x256x1024) ![s, 0, 0, 0] S1x2x256x1024.size (inb4 h (Nat.le_refl 2))) (fun _ => rfl)).squeeze
    S2x256x1024 squeezes_S1x2x256x1024_S2x256x1024

/-- What transfer `n` writes to the result: slot `n` modulo 3 of the output ring after `2 * n + 2` stores. -/
def ochunk (n : ℕ) (h : n < 8) : Vec F S2x256x1024 .f32 :=
  ReadAs.same.apply (View.read (Elt F) (oslot (n % 3) (slot_lt n)).view
    (so.view.writes (Elt F) go (gos c arg0 fu fx fe ft fW fvb gx ge gW gt gv (2 * n + 2) (two_le h))))

/-- The first `n` transfers' writes of the result, the latest first. -/
def outs (n : ℕ) : n ≤ 8 → List (View.Piece (Elt F) S16x256x1024 .f32) :=
  Nat.rec (motive := fun n => n ≤ 8 → List (View.Piece (Elt F) S16x256x1024 .f32)) (fun _ => [])
    (fun k ih h => ⟨Rect.unit (s := S16x256x1024) ![2 * k, 0, 0] S2x256x1024.size (inb3 (chunk_le h)),
      ochunk c arg0 fu fx fe ft fW fvb gx ge go gW gt gv k h⟩ :: ih (Nat.le_of_succ_le h)) n

/-- What the body leaves in the result: the eight transfers' writes. -/
theorem out_eq : (bodyRun c arg0 harg0 fu fx fe ft fW fvb fo gx ge go gW gt gv).1
    = mo.view.writes (Elt F) mo.view.junk (outs c arg0 fu fx fe ft fW fvb gx ge go gW gt gv 8 (Nat.le_refl 8)) := by sl_kernel_rfl
end

end Cert.KernelIdeal.Hand

end
-- ==== Proof.KernelIdeal.Slots.lean ====
module

public import Idealize.ShloMosaic.Signature.Memref
public import Idealize.ShloMosaic.Lib.Writes
public import Idealize.ShloMosaic.Lib.WritesUnit
public import Idealize.ShloMosaic.Lib.Pointwise

@[expose] public section

set_option maxRecDepth 65536

noncomputable section

/-! # Reading and writing one slot of a ring, one row of a slot, one part of an array -/

namespace Cert.KernelIdeal.Hand

open Idealize.ShloMosaic

variable {sig : RefSig} {κ : Kind} {sp : Space} {e : EltTy} {Val : EltTy → Type}

/-- A unit leading axis dropped: position `(j, c, l)` of the box is `(0, j, c, l)` of the slab. -/
theorem unsqueeze {A C L : ℕ} (h : (⟨3, ![A, C, L]⟩ : Shape).numel = (⟨4, ![1, A, C, L]⟩ : Shape).numel)
    (j : Fin A) (c : Fin C) (l : Fin L) : Shape.reshapeEquiv h (ix3 j c l) = ix4 (0 : Fin 1) j c l := by
  apply Shape.reshapeEquiv_eq_of_rowMajor
  rw [rowMajor_val3 (d := ![A, C, L]) _ (C * L) L rfl rfl,
    rowMajor_val4 (d := ![1, A, C, L]) _ (A * (C * L)) (C * L) L rfl rfl rfl]
  simp

section
variable {B A C L : ℕ} (v : View sig κ sp ⟨4, ![B, A, C, L]⟩ e) (s : Fin B)
  (inb : ∀ d, (![s.val, 0, 0, 0] : Fin 4 → ℕ) d + (⟨4, ![1, A, C, L]⟩ : Shape).size d ≤ (⟨4, ![B, A, C, L]⟩ : Shape).size d)
  (h : (⟨3, ![A, C, L]⟩ : Shape).numel = (⟨4, ![1, A, C, L]⟩ : Shape).numel)

/-- The element of a slot of a ring under a position of the box. -/
theorem slot_emb (j : Fin A) (c : Fin C) (l : Fin L) :
    ((v.slice (Rect.unit (s := ⟨4, ![B, A, C, L]⟩) ![s.val, 0, 0, 0] (⟨4, ![1, A, C, L]⟩ : Shape).size inb)).reshape ⟨3, ![A, C, L]⟩ h).emb (ix3 j c l)
      = v.emb (ix4 s j c l) := by
  show v.emb ((Rect.unit (s := ⟨4, ![B, A, C, L]⟩) ![s.val, 0, 0, 0] (⟨4, ![1, A, C, L]⟩ : Shape).size inb).emb (Shape.reshapeEquiv h (ix3 j c l))) = _
  rw [unsqueeze]
  congr 1
  funext d
  apply Fin.ext
  match d with
  | ⟨0, _⟩ => show s.val + 1 * 0 = s.val; omega
  | ⟨1, _⟩ => show 0 + 1 * j.val = j.val; omega
  | ⟨2, _⟩ => show 0 + 1 * c.val = c.val; omega
  | ⟨3, _⟩ => show 0 + 1 * l.val = l.val; omega

/-- What a slot reads at a position of the box. -/
theorem slot_read (f : v.ty.Contents Val) (j : Fin A) (c : Fin C) (l : Fin L) :
    ((v.slice (Rect.unit (s := ⟨4, ![B, A, C, L]⟩) ![s.val, 0, 0, 0] (⟨4, ![1, A, C, L]⟩ : Shape).size inb)).reshape ⟨3, ![A, C, L]⟩ h).read Val f (ix3 j c l)
      = v.read Val f (ix4 s j c l) := by
  rw [View.read_apply, View.read_apply, slot_emb]

/-- A slot written whole reads, at a position of that slot, what was written there. -/
theorem slot_write_hit (f : v.ty.Contents Val) (w : (⟨3, ![A, C, L]⟩ : Shape).Idx → Val e) (j : Fin A) (c : Fin C) (l : Fin L) :
    v.read Val (((v.slice (Rect.unit (s := ⟨4, ![B, A, C, L]⟩) ![s.val, 0, 0, 0] (⟨4, ![1, A, C, L]⟩ : Shape).size inb)).reshape ⟨3, ![A, C, L]⟩ h).write Val f w Finset.univ)
      (ix4 s j c l) = w (ix3 j c l) := by
  rw [← slot_read (inb := inb) (h := h), View.read_write_univ]

/-- and at a position of another slot what was there before. -/
theorem slot_write_miss (f : v.ty.Contents Val) (w : (⟨3, ![A, C, L]⟩ : Shape).Idx → Val e) (s' : Fin B) (hs : s' ≠ s) (j : Fin A) (c : Fin C) (l : Fin L) :
    v.read Val (((v.slice (Rect.unit (s := ⟨4, ![B, A, C, L]⟩) ![s.val, 0, 0, 0] (⟨4, ![1, A, C, L]⟩ : Shape).size inb)).reshape ⟨3, ![A, C, L]⟩ h).write Val f w Finset.univ)
      (ix4 s' j c l) = v.read Val f (ix4 s' j c l) := by
  rw [View.read_apply, View.read_apply, View.write_of_not_mem]
  intro hm
  obtain ⟨x, -, hx⟩ := Finset.mem_map.mp hm
  obtain ⟨j', c', l', rfl⟩ : ∃ (j' : Fin A) (c' : Fin C) (l' : Fin L), x = ix3 j' c' l' := ⟨x 0, x 1, x 2, eq_ix3 x⟩
  rw [slot_emb] at hx
  exact hs (((ix4_inj ..).mp (v.emb.injective hx)).1.symm)
end

/-- A read of one row block of a slot of a ring. -/
theorem row_read {B A C L : ℕ} (v : View sig κ sp ⟨4, ![B, A, C, L]⟩ e) (s : Fin B) (j : Fin A)
    (inb : ∀ d, (![s.val, j.val, 0, 0] : Fin 4 → ℕ) d + (⟨4, ![1, 1, C, L]⟩ : Shape).size d ≤ (⟨4, ![B, A, C, L]⟩ : Shape).size d)
    (f : v.ty.Contents Val) (c : Fin C) (l : Fin L) :
    v.readAt Val (Rect.unit (s := ⟨4, ![B, A, C, L]⟩) ![s.val, j.val, 0, 0] (⟨4, ![1, 1, C, L]⟩ : Shape).size inb).toLoadRect f (ix4 (0 : Fin 1) (0 : Fin 1) c l)
      = v.read Val f (ix4 s j c l) := by
  rw [View.readAt_apply]
  congr 1
  funext d
  apply Fin.ext
  match d with
  | ⟨0, _⟩ => show s.val + 1 * 0 = s.val; omega
  | ⟨1, _⟩ => show j.val + 1 * 0 = j.val; omega
  | ⟨2, _⟩ => show 0 + 1 * c.val = c.val; omega
  | ⟨3, _⟩ => show 0 + 1 * l.val = l.val; omega

/-- A read of some leading blocks of a box. -/
theorem lead_read {A P C L : ℕ} (v : View sig κ sp ⟨3, ![A, C, L]⟩ e) (o : ℕ)
    (inb : ∀ d, (![o, 0, 0] : Fin 3 → ℕ) d + (⟨3, ![P, C, L]⟩ : Shape).size d ≤ (⟨3, ![A, C, L]⟩ : Shape).size d)
    (f : v.ty.Contents Val) (j : Fin P) (b : Fin A) (hb : b.val = o + j.val) (c : Fin C) (l : Fin L) :
    v.readAt Val (Rect.unit (s := ⟨3, ![A, C, L]⟩) ![o, 0, 0] (⟨3, ![P, C, L]⟩ : Shape).size inb).toLoadRect f (ix3 j c l)
      = v.read Val f (ix3 b c l) := by
  rw [View.readAt_apply]
  congr 1
  funext d
  apply Fin.ext
  match d with
  | ⟨0, _⟩ => show o + 1 * j.val = b.val; omega
  | ⟨1, _⟩ => show 0 + 1 * c.val = c.val; omega
  | ⟨2, _⟩ => show 0 + 1 * l.val = l.val; omega

/-- A read of a rectangle of a matrix. -/
theorem mat_read {A B P Q : ℕ} (v : View sig κ sp ⟨2, ![A, B]⟩ e) (o o' : ℕ)
    (inb : ∀ d, (![o, o'] : Fin 2 → ℕ) d + (⟨2, ![P, Q]⟩ : Shape).size d ≤ (⟨2, ![A, B]⟩ : Shape).size d)
    (f : v.ty.Contents Val) (j : Fin P) (k : Fin Q) (b : Fin A) (hb : b.val = o + j.val) (b' : Fin B) (hb' : b'.val = o' + k.val) :
    v.readAt Val (Rect.unit (s := ⟨2, ![A, B]⟩) ![o, o'] (⟨2, ![P, Q]⟩ : Shape).size inb).toLoadRect f (ix2 j k)
      = v.read Val f (ix2 b b') := by
  rw [View.readAt_apply]
  congr 1
  funext d
  apply Fin.ext
  match d with
  | ⟨0, _⟩ => show o + 1 * j.val = b.val; omega
  | ⟨1, _⟩ => show o' + 1 * k.val = b'.val; omega

/-- The newest store of a list, one row block of a ring, read at a position it wrote. -/
theorem row_store_hit {B A C L : ℕ} (v : View sig κ sp ⟨4, ![B, A, C, L]⟩ e) (f : v.ty.Contents Val) (s j : ℕ) (s' : Fin B) (j' : Fin A)
    (hs : s'.val = s) (hj : j'.val = j)
    (inb : ∀ d, (![s, j, 0, 0] : Fin 4 → ℕ) d + (⟨4, ![1, 1, C, L]⟩ : Shape).size d ≤ (⟨4, ![B, A, C, L]⟩ : Shape).size d)
    (w : (⟨4, ![1, 1, C, L]⟩ : Shape).Idx → Val e) (Ls : List (View.Piece Val ⟨4, ![B, A, C, L]⟩ e)) (c : Fin C) (l : Fin L) :
    v.read Val (v.writes Val f (⟨Rect.unit (s := ⟨4, ![B, A, C, L]⟩) ![s, j, 0, 0] (⟨4, ![1, 1, C, L]⟩ : Shape).size inb, w⟩ :: Ls)) (ix4 s' j' c l)
      = w (ix4 (0 : Fin 1) (0 : Fin 1) c l) := by
  refine View.read_writes_cons_unit_of_mem (s := ⟨4, ![B, A, C, L]⟩) (size := (⟨4, ![1, 1, C, L]⟩ : Shape).size) v f inb w Ls _ (ix4 (0 : Fin 1) (0 : Fin 1) c l) rfl ?_
  intro a
  match a with
  | ⟨0, _⟩ => exact hs
  | ⟨1, _⟩ => exact hj
  | ⟨2, _⟩ => exact (Nat.zero_add _).symm
  | ⟨3, _⟩ => exact (Nat.zero_add _).symm

/-- The same store read at a position of another row block: what was there before. -/
theorem row_store_miss {B A C L : ℕ} (v : View sig κ sp ⟨4, ![B, A, C, L]⟩ e) (f : v.ty.Contents Val) (s j : ℕ) (s' : Fin B) (j' : Fin A)
    (hsj : s'.val ≠ s ∨ j'.val ≠ j)
    (inb : ∀ d, (![s, j, 0, 0] : Fin 4 → ℕ) d + (⟨4, ![1, 1, C, L]⟩ : Shape).size d ≤ (⟨4, ![B, A, C, L]⟩ : Shape).size d)
    (w : (⟨4, ![1, 1, C, L]⟩ : Shape).Idx → Val e) (Ls : List (View.Piece Val ⟨4, ![B, A, C, L]⟩ e)) (c : Fin C) (l : Fin L) :
    v.read Val (v.writes Val f (⟨Rect.unit (s := ⟨4, ![B, A, C, L]⟩) ![s, j, 0, 0] (⟨4, ![1, 1, C, L]⟩ : Shape).size inb, w⟩ :: Ls)) (ix4 s' j' c l)
      = v.read Val (v.writes Val f Ls) (ix4 s' j' c l) := by
  rcases hsj with h | h
  · refine View.read_writes_cons_unit_of_not_mem (s := ⟨4, ![B, A, C, L]⟩) (size := (⟨4, ![1, 1, C, L]⟩ : Shape).size) v f inb w Ls _ rfl (0 : Fin 4) ?_
    show s'.val < s ∨ s + 1 ≤ s'.val
    omega
  · refine View.read_writes_cons_unit_of_not_mem (s := ⟨4, ![B, A, C, L]⟩) (size := (⟨4, ![1, 1, C, L]⟩ : Shape).size) v f inb w Ls _ rfl (1 : Fin 4) ?_
    show j'.val < j ∨ j + 1 ≤ j'.val
    omega

/-- The newest write of a list, some leading blocks of a box, read at a position it wrote. -/
theorem lead_store_hit {A P C L : ℕ} (v : View sig κ sp ⟨3, ![A, C, L]⟩ e) (f : v.ty.Contents Val) (o : ℕ) (b : Fin A) (j : Fin P) (hb : b.val = o + j.val)
    (inb : ∀ d, (![o, 0, 0] : Fin 3 → ℕ) d + (⟨3, ![P, C, L]⟩ : Shape).size d ≤ (⟨3, ![A, C, L]⟩ : Shape).size d)
    (w : (⟨3, ![P, C, L]⟩ : Shape).Idx → Val e) (Ls : List (View.Piece Val ⟨3, ![A, C, L]⟩ e)) (c : Fin C) (l : Fin L) :
    v.read Val (v.writes Val f (⟨Rect.unit (s := ⟨3, ![A, C, L]⟩) ![o, 0, 0] (⟨3, ![P, C, L]⟩ : Shape).size inb, w⟩ :: Ls)) (ix3 b c l)
      = w (ix3 j c l) := by
  refine View.read_writes_cons_unit_of_mem (s := ⟨3, ![A, C, L]⟩) (size := (⟨3, ![P, C, L]⟩ : Shape).size) v f inb w Ls _ (ix3 j c l) rfl ?_
  intro a
  match a with
  | ⟨0, _⟩ => exact hb
  | ⟨1, _⟩ => exact (Nat.zero_add _).symm
  | ⟨2, _⟩ => exact (Nat.zero_add _).symm

/-- The same write read outside those blocks: what was there before. -/
theorem lead_store_miss {A P C L : ℕ} (v : View sig κ sp ⟨3, ![A, C, L]⟩ e) (f : v.ty.Contents Val) (o : ℕ) (b : Fin A)
    (hb : b.val < o ∨ o + P ≤ b.val)
    (inb : ∀ d, (![o, 0, 0] : Fin 3 → ℕ) d + (⟨3, ![P, C, L]⟩ : Shape).size d ≤ (⟨3, ![A, C, L]⟩ : Shape).size d)
    (w : (⟨3, ![P, C, L]⟩ : Shape).Idx → Val e) (Ls : List (View.Piece Val ⟨3, ![A, C, L]⟩ e)) (c : Fin C) (l : Fin L) :
    v.read Val (v.writes Val f (⟨Rect.unit (s := ⟨3, ![A, C, L]⟩) ![o, 0, 0] (⟨3, ![P, C, L]⟩ : Shape).size inb, w⟩ :: Ls)) (ix3 b c l)
      = v.read Val (v.writes Val f Ls) (ix3 b c l) :=
  View.read_writes_cons_unit_of_not_mem (s := ⟨3, ![A, C, L]⟩) (size := (⟨3, ![P, C, L]⟩ : Shape).size) v f inb w Ls _ rfl (0 : Fin 3) hb

end Cert.KernelIdeal.Hand

end
-- ==== Proof.KernelIdeal.Loads.lean ====
module

public import proofs.«01_k».proof.Proof.KernelIdeal.Block
public import proofs.«01_k».proof.Proof.KernelIdeal.Slots

@[expose] public section

set_option maxRecDepth 65536

noncomputable section

/-! # The result as a function of the arguments -/

namespace Cert.KernelIdeal.Hand

open Cert.KernelIdeal Cert.KernelIdeal.Gen
open Idealize.ShloMosaic Idealize.ShloMosaic.TcCoe Idealize.ShloMosaic.Tactic

variable {F : FTy → Type} [FloatOps F]

/-! ## What the kernel loads, in terms of its arguments -/

section
variable (c : Dev nD) (fx : Bf (F := F) c mx) (fe : Bf (F := F) c me) (gx : Bf (F := F) c sx) (ge : Bf (F := F) c se)

/-- A transfer's source is two consecutive batch elements. -/
theorem xchunk_at (n : ℕ) (h : n < 8) (j : Fin 2) (r : Fin 256) (l : Fin 1024) :
    xchunk c fx n h (ix3 j r l) = fx (ix3 (⟨2 * n + j.val, by omega⟩ : Fin 16) r l) :=
  lead_read (Val := Elt F) mx.view (2 * n) (inb3 (chunk_le h)) fx j ⟨2 * n + j.val, by omega⟩ rfl r l
/-- The embeddings' transfer reads two consecutive batch elements. -/
theorem echunk_at (n : ℕ) (h : n < 8) (j : Fin 2) (r : Fin 64) (l : Fin 1024) :
    echunk c fe n h (ix3 j r l) = fe (ix3 (⟨2 * n + j.val, by omega⟩ : Fin 16) r l) :=
  lead_read (Val := Elt F) me.view (2 * n) (inb3 (chunk_le h)) fe j ⟨2 * n + j.val, by omega⟩ rfl r l

/-- The rings still hold what one of the last three transfers wrote. -/
theorem xring_at (n : ℕ) (h : n ≤ 8) (k : ℕ) (hk : k < n) (hn : n ≤ k + 3) (j : Fin 2) (r : Fin 256) (l : Fin 1024) :
    View.read (Elt F) sx.view (xring c fx gx n h) (ix4 (⟨k % 3, slot_lt k⟩ : Fin 3) j r l)
      = xchunk c fx k (by omega) (ix3 j r l) := by
  induction n with
  | zero => omega
  | succ m ih =>
    by_cases hkm : k = m
    · subst hkm
      exact slot_write_hit (Val := Elt F) sx.view ⟨k % 3, slot_lt k⟩ (inb4 (slot_lt k) (Nat.le_refl 2)) _ _ _ j r l
    · refine (slot_write_miss (Val := Elt F) sx.view ⟨m % 3, slot_lt m⟩ (inb4 (slot_lt m) (Nat.le_refl 2)) _ _ _
        ⟨k % 3, slot_lt k⟩ ?_ j r l).trans (ih (by omega) (by omega) (by omega))
      intro hh
      have := congrArg Fin.val hh
      dsimp only at this
      omega
/-- The embeddings' ring still holds what one of the last three transfers wrote. -/
theorem ering_at (n : ℕ) (h : n ≤ 8) (k : ℕ) (hk : k < n) (hn : n ≤ k + 3) (j : Fin 2) (r : Fin 64) (l : Fin 1024) :
    View.read (Elt F) se.view (ering c fe ge n h) (ix4 (⟨k % 3, slot_lt k⟩ : Fin 3) j r l)
      = echunk c fe k (by omega) (ix3 j r l) := by
  induction n with
  | zero => omega
  | succ m ih =>
    by_cases hkm : k = m
    · subst hkm
      exact slot_write_hit (Val := Elt F) se.view ⟨k % 3, slot_lt k⟩ (inb4 (slot_lt k) (Nat.le_refl 2)) _ _ _ j r l
    · refine (slot_write_miss (Val := Elt F) se.view ⟨m % 3, slot_lt m⟩ (inb4 (slot_lt m) (Nat.le_refl 2)) _ _ _
        ⟨k % 3, slot_lt k⟩ ?_ j r l).trans (ih (by omega) (by omega) (by omega))
      intro hh
      have := congrArg Fin.val hh
      dsimp only at this
      omega

/-- The rows of `x` and the embeddings loaded for batch element `2 * i + j`. -/
theorem xld_at (i j : ℕ) (hi : i < 8) (hj : j < 2) (r : Fin 256) (l : Fin 1024) :
    xld c fx gx i j hi hj (ix4 (0 : Fin 1) (0 : Fin 1) r l) = fx (ix3 (⟨2 * i + j, batch_lt hi hj⟩ : Fin 16) r l) :=
  (row_read (Val := Elt F) sx.view ⟨i % 3, slot_lt i⟩ ⟨j, hj⟩ (inb4 (slot_lt i) hj) _ r l).trans
    ((xring_at c fx gx _ _ i (by omega) (by omega) ⟨j, hj⟩ r l).trans (xchunk_at c fx i hi ⟨j, hj⟩ r l))
/-- The embeddings loaded for batch element `2 * i + j` are its own. -/
theorem eld_at (i j : ℕ) (hi : i < 8) (hj : j < 2) (r : Fin 64) (l : Fin 1024) :
    eld c fe ge i j hi hj (ix4 (0 : Fin 1) (0 : Fin 1) r l) = fe (ix3 (⟨2 * i + j, batch_lt hi hj⟩ : Fin 16) r l) :=
  (row_read (Val := Elt F) se.view ⟨i % 3, slot_lt i⟩ ⟨j, hj⟩ (inb4 (slot_lt i) hj) _ r l).trans
    ((ering_at c fe ge _ _ i (by omega) (by omega) ⟨j, hj⟩ r l).trans (echunk_at c fe i hi ⟨j, hj⟩ r l))
end

section
variable (c : Dev nD) (arg0 : Memref sig .tc .smem S16x64 .f32) (fu : Bf (F := F) c arg0)
    (ft : Bf (F := F) c mt) (fW : Bf (F := F) c mW) (fvb : Bf (F := F) c mvb)
    (gW : Bf (F := F) c sW) (gt : Bf (F := F) c st) (gv : Bf (F := F) c sv)

/-- The scalars, the column chunk of `W`, the two extra columns and the time row loaded for a batch element. -/
theorem uld_at (b : ℕ) (hb : b < 16) (k : Fin 64) :
    uld c arg0 fu b hb k = View.read (Elt F) arg0.view fu (ix2 (⟨b, hb⟩ : Fin 16) k) := by
  have h : Shape.Idx.first one_pos = ix2 (0 : Fin 1) (0 : Fin 1) := by
    rw [eq_ix2 (Shape.Idx.first one_pos)]
    exact congrArg₂ ix2 (Fin.fin_one_eq_zero _) (Fin.fin_one_eq_zero _)
  unfold uld
  rw [h]
  exact mat_read (Val := Elt F) arg0.view b k.val (inb2 hb k.isLt) fu 0 0 ⟨b, hb⟩ rfl k rfl
/-- Column chunk `k` of `W` is its columns from `128 * k` on. -/
theorem wld_at (k : Fin 32) (r : Fin 512) (q : Fin 128) :
    wld c fW gW k (ix2 r q) = fW (ix2 r (⟨128 * k.val + q.val, by omega⟩ : Fin 4096)) := by
  refine (mat_read (Val := Elt F) sW.view 0 (128 * k.val) (inb2 (Nat.le_refl 512) (col_le k)) _ r q r (by omega)
    ⟨128 * k.val + q.val, by omega⟩ rfl).trans ?_
  rw [View.read_write_univ]
  rfl
/-- The two extra columns are loaded as they are. -/
theorem vld_at (r : Fin 512) (q : Fin 2) : vld c fvb gv (ix2 r q) = fvb (ix2 r q) := by
  refine (mat_read (Val := Elt F) sv.view 0 0 inb_S512x2_S512x2_0_0 _ r q r (by omega) q (by omega)).trans ?_
  rw [View.read_write_univ]
  rfl
/-- The time row loaded for batch element `b` is its own. -/
theorem tld_at (b : ℕ) (hb : b < 16) (l : Fin 1024) :
    tld c ft gt b hb (ix3 (0 : Fin 1) (0 : Fin 1) l) = ft (ix3 (⟨b, hb⟩ : Fin 16) (0 : Fin 1) l) := by
  refine (lead_read (Val := Elt F) st.view b (inb3 hb) _ 0 ⟨b, hb⟩ rfl 0 l).trans ?_
  rw [View.read_write_univ]
  rfl
end

/-! ## The block of a batch element, in terms of the arguments -/

/-- The block of batch element `b`, from the whole arrays. -/
def blkOf (u : Vec F S16x64 .f32) (x : Vec F S16x256x1024 .f32) (e : Vec F S16x64x1024 .f32) (t : Vec F S16x1x1024 .f32)
    (W : Vec F S512x4096 .f32) (vb : Vec F S512x2 .f32) (b : Fin 16) : FVec F S1x1x256x1024 .f32 :=
  blk (fun i => x (ix3 b (i 2) (i 3))) (fun k => u (ix2 b k))
    (fun k i => W (ix2 (i 0) (⟨128 * k.val + (i 1).val, by have h : (i 1).val < 128 := (i 1).isLt; omega⟩ : Fin 4096))) vb
    (fun i => e (ix3 b (i 2) (i 3))) (fun i => t (ix3 b 0 (i 2)))

section
variable (c : Dev nD) (arg0 : Memref sig .tc .smem S16x64 .f32) (harg0 : arg0.IsWhole) (fu : Bf (F := F) c arg0) (fx : Bf (F := F) c mx) (fe : Bf (F := F) c me)
    (ft : Bf (F := F) c mt) (fW : Bf (F := F) c mW) (fvb : Bf (F := F) c mvb) (fo : Bf (F := F) c mo)
    (gx : Bf (F := F) c sx) (ge : Bf (F := F) c se) (go : Bf (F := F) c so) (gW : Bf (F := F) c sW) (gt : Bf (F := F) c st) (gv : Bf (F := F) c sv)

/-- The stored block is the block of the batch element. -/
theorem pay_eq (i j : ℕ) (hi : i < 8) (hj : j < 2) :
    pay c arg0 fu fx fe ft fW fvb gx ge gW gt gv i j hi hj
      = blkOf (View.read (Elt F) arg0.view fu) fx fe ft fW fvb ⟨2 * i + j, batch_lt hi hj⟩ := by
  unfold pay blkOf
  congr 1
  · funext y
    obtain ⟨a, b, r, l, rfl⟩ : ∃ (a : Fin 1) (b : Fin 1) (r : Fin 256) (l : Fin 1024), y = ix4 a b r l := ⟨y 0, y 1, y 2, y 3, eq_ix4 y⟩
    obtain rfl := Fin.fin_one_eq_zero a
    obtain rfl := Fin.fin_one_eq_zero b
    exact xld_at c fx gx i j hi hj r l
  · funext k
    exact uld_at c arg0 fu _ _ k
  · funext k y
    obtain ⟨r, q, rfl⟩ : ∃ (r : Fin 512) (q : Fin 128), y = ix2 r q := ⟨y 0, y 1, eq_ix2 y⟩
    exact wld_at c fW gW k r q
  · funext y
    obtain ⟨r, q, rfl⟩ : ∃ (r : Fin 512) (q : Fin 2), y = ix2 r q := ⟨y 0, y 1, eq_ix2 y⟩
    exact vld_at c fvb gv r q
  · funext y
    obtain ⟨a, b, r, l, rfl⟩ : ∃ (a : Fin 1) (b : Fin 1) (r : Fin 64) (l : Fin 1024), y = ix4 a b r l := ⟨y 0, y 1, y 2, y 3, eq_ix4 y⟩
    obtain rfl := Fin.fin_one_eq_zero a
    obtain rfl := Fin.fin_one_eq_zero b
    exact eld_at c fe ge i j hi hj r l
  · funext y
    obtain ⟨a, b, l, rfl⟩ : ∃ (a : Fin 1) (b : Fin 1) (l : Fin 1024), y = ix3 a b l := ⟨y 0, y 1, y 2, eq_ix3 y⟩
    obtain rfl := Fin.fin_one_eq_zero a
    obtain rfl := Fin.fin_one_eq_zero b
    exact tld_at c ft gt _ _ l

/-- One more store, and one more transfer out. -/
theorem gos_succ (m : ℕ) (h : m + 1 ≤ 16) :
    gos c arg0 fu fx fe ft fW fvb gx ge gW gt gv (m + 1) h
      = ⟨Rect.unit (s := S3x2x256x1024) ![m / 2 % 3, m % 2, 0, 0] S1x1x256x1024.size (inb4 (slot_lt _) (par_lt m)),
          pay c arg0 fu fx fe ft fW fvb gx ge gW gt gv (m / 2) (m % 2) (half_lt h) (par_lt m)⟩
        :: gos c arg0 fu fx fe ft fW fvb gx ge gW gt gv m (Nat.le_of_succ_le h) := rfl
/-- The transfers out, one more at the head. -/
theorem outs_succ (k : ℕ) (h : k + 1 ≤ 8) :
    outs c arg0 fu fx fe ft fW fvb gx ge go gW gt gv (k + 1) h
      = ⟨Rect.unit (s := S16x256x1024) ![2 * k, 0, 0] S2x256x1024.size (inb3 (chunk_le h)), ochunk c arg0 fu fx fe ft fW fvb gx ge go gW gt gv k h⟩
        :: outs c arg0 fu fx fe ft fW fvb gx ge go gW gt gv k (Nat.le_of_succ_le h) := rfl

/-- The output ring still holds what one of the last six stores wrote. -/
theorem gos_at (n : ℕ) (h : n ≤ 16) (p : ℕ) (hp : p < n) (hn : n ≤ p + 6) (r : Fin 256) (l : Fin 1024) :
    View.read (Elt F) so.view (so.view.writes (Elt F) go (gos c arg0 fu fx fe ft fW fvb gx ge gW gt gv n h))
        (ix4 (⟨p / 2 % 3, slot_lt _⟩ : Fin 3) (⟨p % 2, par_lt p⟩ : Fin 2) r l)
      = blkOf (View.read (Elt F) arg0.view fu) fx fe ft fW fvb ⟨p, by omega⟩ (ix4 (0 : Fin 1) (0 : Fin 1) r l) := by
  induction n with
  | zero => omega
  | succ m ih =>
    rw [gos_succ]
    by_cases hpm : p = m
    · subst hpm
      refine (row_store_hit (Val := Elt F) so.view go _ _ ⟨p / 2 % 3, slot_lt _⟩ ⟨p % 2, par_lt p⟩ rfl rfl (inb4 (slot_lt _) (par_lt p)) _ _ r l).trans ?_
      rw [pay_eq]
      have h2 : (⟨2 * (p / 2) + p % 2, batch_lt (half_lt h) (par_lt p)⟩ : Fin 16) = ⟨p, h⟩ := Fin.ext (Nat.div_add_mod p 2)
      rw [h2]
    · refine Eq.trans ?_ (ih (by omega) (by omega) (by omega))
      refine row_store_miss (Val := Elt F) so.view go _ _ ⟨p / 2 % 3, slot_lt _⟩ ⟨p % 2, par_lt p⟩ ?_ (inb4 (slot_lt _) (par_lt m)) _ _ r l
      show p / 2 % 3 ≠ m / 2 % 3 ∨ p % 2 ≠ m % 2
      omega

/-- A transfer out of the output ring carries the blocks of two batch elements. -/
theorem ochunk_at (n : ℕ) (h : n < 8) (j : Fin 2) (r : Fin 256) (l : Fin 1024) :
    ochunk c arg0 fu fx fe ft fW fvb gx ge go gW gt gv n h (ix3 j r l)
      = blkOf (View.read (Elt F) arg0.view fu) fx fe ft fW fvb ⟨2 * n + j.val, by omega⟩ (ix4 (0 : Fin 1) (0 : Fin 1) r l) := by
  refine (slot_read (Val := Elt F) so.view ⟨n % 3, slot_lt n⟩ (inb4 (slot_lt n) (Nat.le_refl 2)) _ _ j r l).trans ?_
  refine Eq.trans ?_ (gos_at c arg0 fu fx fe ft fW fvb gx ge go gW gt gv (2 * n + 2) (two_le h) (2 * n + j.val) (by omega) (by omega) r l)
  congr 2
  · apply Fin.ext
    show n % 3 = (2 * n + j.val) / 2 % 3
    omega
  · apply Fin.ext
    show j.val = (2 * n + j.val) % 2
    omega

/-- After `n` transfers the result holds the blocks of the first `2 * n` batch elements. -/
theorem outs_at (n : ℕ) (h : n ≤ 8) (b : Fin 16) (hb : b.val < 2 * n) (r : Fin 256) (l : Fin 1024) :
    View.read (Elt F) mo.view (mo.view.writes (Elt F) mo.view.junk (outs c arg0 fu fx fe ft fW fvb gx ge go gW gt gv n h)) (ix3 b r l)
      = blkOf (View.read (Elt F) arg0.view fu) fx fe ft fW fvb b (ix4 (0 : Fin 1) (0 : Fin 1) r l) := by
  induction n with
  | zero => omega
  | succ k ih =>
    rw [outs_succ]
    by_cases hk : b.val < 2 * k
    · exact (lead_store_miss (Val := Elt F) mo.view _ (2 * k) b (Or.inl hk) (inb3 (chunk_le h)) _ _ r l).trans (ih (by omega) hk)
    · have hj : b.val - 2 * k < 2 := by omega
      have hb' : b.val = 2 * k + (b.val - 2 * k) := by omega
      refine (lead_store_hit (Val := Elt F) mo.view _ (2 * k) b ⟨b.val - 2 * k, hj⟩ hb' (inb3 (chunk_le h)) _ _ r l).trans ?_
      rw [ochunk_at]
      have h2 : (⟨2 * k + (b.val - 2 * k), hb' ▸ b.isLt⟩ : Fin 16) = b := Fin.ext hb'.symm
      rw [h2]

/-- All sixteen blocks, as one array. -/
def whole (u : Vec F S16x64 .f32) (x : Vec F S16x256x1024 .f32) (e : Vec F S16x64x1024 .f32) (t : Vec F S16x1x1024 .f32)
    (W : Vec F S512x4096 .f32) (vb : Vec F S512x2 .f32) : Vec F S16x256x1024 .f32 :=
  fun y => blkOf u x e t W vb (y 0) (ix4 (0 : Fin 1) (0 : Fin 1) (y 1) (y 2))

/-- Row `r`, lane `l` of batch element `b` of the whole array is that of the block. -/
theorem whole_at (u : Vec F S16x64 .f32) (x : Vec F S16x256x1024 .f32) (e : Vec F S16x64x1024 .f32) (t : Vec F S16x1x1024 .f32)
    (W : Vec F S512x4096 .f32) (vb : Vec F S512x2 .f32) (b : Fin 16) (r : Fin 256) (l : Fin 1024) :
    whole u x e t W vb (ix3 b r l) = blkOf u x e t W vb b (ix4 (0 : Fin 1) (0 : Fin 1) r l) := rfl

/-- The contents of the result are what it reads. -/
theorem mo_read (f : Bf (F := F) c mo) : f = View.read (Elt F) mo.view f := rfl

/-- The eight transfers' writes, read at any index of the result. -/
theorem outs_eq : mo.view.writes (Elt F) mo.view.junk (outs c arg0 fu fx fe ft fW fvb gx ge go gW gt gv 8 (Nat.le_refl 8))
    = whole (View.read (Elt F) arg0.view fu) fx fe ft fW fvb := by
  refine (mo_read c _).trans ?_
  refine funext fun y => ?_
  obtain ⟨b, r, l, rfl⟩ : ∃ (b : Fin 16) (r : Fin 256) (l : Fin 1024), y = ix3 b r l := ⟨y 0, y 1, y 2, eq_ix3 y⟩
  rw [whole_at]
  exact outs_at c arg0 fu fx fe ft fW fvb gx ge go gW gt gv 8 (Nat.le_refl 8) b (by omega) r l

/-- The body leaves in the result, at every index, the block of its batch element. -/
theorem out_at :
    (bodyRun c arg0 harg0 fu fx fe ft fW fvb fo gx ge go gW gt gv).1
      = whole (View.read (Elt F) arg0.view fu) fx fe ft fW fvb :=
  (out_eq c arg0 harg0 fu fx fe ft fW fvb fo gx ge go gW gt gv).trans (outs_eq c arg0 fu fx fe ft fW fvb gx ge go gW gt gv)
end

end Cert.KernelIdeal.Hand

end
-- ==== Proof.KernelIdeal.Result.lean ====
module

public import proofs.«01_k».proof.Proof.KernelIdeal.Loads
public import proofs.«01_k».proof.Proof.KernelIdeal.Frame
public import Idealize.ShloMosaic.Lib.Claim

@[expose] public section

set_option maxRecDepth 65536

noncomputable section

/-! # What the program leaves in its result -/

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The window of the scalars is their whole array. -/
theorem read_u (c : Dev nD) (t : Fin cfg0.N) :
    View.read (Elt F) (ms0_0 t).view (iblk m c 0 t) = V m c main_arg1 := by
  refine funext fun y => ?_
  have ho : ∀ (t : Fin cfg0.N) (d : Fin 2), ((cfg0.win 0).rect t).off d = 0 := by decide +kernel
  obtain ⟨b, k, rfl⟩ : ∃ (b : Fin 16) (k : Fin 64), y = ix2 b k := ⟨y 0, y 1, eq_ix2 y⟩
  unfold iblk
  rw [View.read_apply, View.read_apply]
  show V m c main_arg1 (((cfg0.win 0).blk t).view.emb (ix2 b k)) = _
  congr 1
  funext d
  apply Fin.ext
  match d with
  | ⟨0, _⟩ => show ((cfg0.win 0).rect t).off (0 : Fin 2) + 1 * b.val = b.val; rw [ho]; omega
  | ⟨1, _⟩ => show ((cfg0.win 0).rect t).off (1 : Fin 2) + 1 * k.val = k.val; rw [ho]; omega

/-- The two extra columns of the weights: `V`, and the bias with one added to its first 256 rows. -/
theorem V_v7 (c : Dev nD) : V m c main_v7
    = concatenate S512x2 1 [⟨S512x1, m (c, main_arg5)⟩, ⟨S512x1, addf (broadcastInDim S512x1 ![0] bcast_S512_S512x1_0 (m (c, main_arg6)))
        (broadcastInDim S512x1 ![0] bcast_S512_S512x1_0 (uitofp .f32 (cmpi .slt (iotaInDim S512 32 0) (broadcastInDim S512 ![] bcast_S_S512 (constantI S_ 32 256#32)))))⟩]
        concatenates_S512x1_S512x1_S512x2_d1 := by
  entry_read
  rfl

/-- What the kernel leaves in the result. -/
def G (c : Dev nD) : Bf (F := F) c mo :=
  whole (m (c, main_arg1)) (m (c, main_arg0)) (m (c, main_arg2)) (m (c, main_arg3)) (m (c, main_arg4)) (V m c main_v7)

/-- The body leaves `G` in the result, whatever the buffers it writes held before. -/
theorem leaves : Leaves m (G m) := by
  intro c t fo gx ge go gW gt gv
  rw [out_at, read_u]
  unfold G
  rw [V_main_arg0, V_main_arg1, V_main_arg2, V_main_arg3, V_main_arg4]
  try rfl

end Cert.KernelIdeal.Hand

end
-- ==== Proof.Sums.lean ====
module

public import Idealize.ShloMosaic.Lib.Pointwise

@[expose] public section

noncomputable section

namespace Cert.Sums

open Idealize.ShloMosaic

/-! # The two identities of the kernel, over the extended reals -/

/-- A number that is neither infinity. -/
def IsFin (x : EReal) : Prop := x ≠ ⊤ ∧ x ≠ ⊥

/-- A sum of reals, taken over the reals or over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The factor of the kernel's means is 1/1024, and the divisor of the reference's means is 1024. -/
theorem inv_n : Ideal.ofBits .f32 0x3A800000#32 = ((1 / 1024 : ℝ) : EReal) := by
  simp [Ideal.ofBits, Ideal.ieee, -EReal.coe_mul]; norm_num
/-- The word of the reference's divisor is the number 1024. -/
theorem n_eq : Ideal.ofBits .f32 0x44800000#32 = ((1024 : ℝ) : EReal) := by
  simp [Ideal.ofBits, Ideal.ieee, -EReal.coe_mul]; norm_num
/-- The word of infinity is the largest extended real. -/
theorem inf_eq : Ideal.ofBits .f32 0x7F800000#32 = ⊤ := by simp [Ideal.ofBits, Ideal.ieee]

/-- The variance of 1024 reals: the mean of the squares less the square of the mean, or the mean of the squared deviations. -/
theorem var_real (f : Fin 1024 → ℝ) :
    (∑ l, f l * f l) * (1 / 1024) - (∑ l, f l) * (1 / 1024) * ((∑ l, f l) * (1 / 1024))
      = (∑ l, (f l - (∑ l, f l) * (1 / 1024)) * (f l - (∑ l, f l) * (1 / 1024))) * (1 / 1024) := by
  generalize hS : ∑ l, f l = S
  have h : ∀ l, (f l - S * (1 / 1024)) * (f l - S * (1 / 1024)) = f l * f l - 2 * (S * (1 / 1024)) * f l + (S * (1 / 1024)) * (S * (1 / 1024)) := fun l => by ring
  simp only [h, Finset.sum_add_distrib, Finset.sum_sub_distrib, ← Finset.mul_sum, hS, Finset.sum_const, Finset.card_univ, Fintype.card_fin, nsmul_eq_mul]
  push_cast
  ring

/-- The normalised row: the kernel's one pass over the row, and the reference's two. -/
theorem norm_eq (f : Fin 1024 → EReal) (hf : ∀ l, IsFin (f l)) (eps : EReal) (l : Fin 1024) :
    (f l - (∑ i, f i) * Ideal.ofBits .f32 0x3A800000#32)
        * Ideal.rsqrt ((∑ i, f i * f i) * Ideal.ofBits .f32 0x3A800000#32
            - (∑ i, f i) * Ideal.ofBits .f32 0x3A800000#32 * ((∑ i, f i) * Ideal.ofBits .f32 0x3A800000#32) + eps)
      = (f l - Ideal.div (∑ i, f i) (Ideal.ofBits .f32 0x44800000#32))
        * Ideal.rsqrt (Ideal.div (∑ i, (f i - Ideal.div (∑ i, f i) (Ideal.ofBits .f32 0x44800000#32))
            * (f i - Ideal.div (∑ i, f i) (Ideal.ofBits .f32 0x44800000#32))) (Ideal.ofBits .f32 0x44800000#32) + eps) := by
  obtain ⟨g, rfl⟩ : ∃ g : Fin 1024 → ℝ, f = fun l => (g l : EReal) :=
    ⟨fun l => (f l).toReal, funext fun l => (EReal.coe_toReal (hf l).1 (hf l).2).symm⟩
  simp only [inv_n, n_eq, Ideal.div_coe (by norm_num : (1024 : ℝ) ≠ 0), ← EReal.coe_mul, ← coe_sum, ← EReal.coe_sub]
  rw [var_real]

/-- A sum over 64 terms, by its even and its odd terms. -/
theorem sum_even_odd (g : Fin 64 → EReal) :
    ∑ j, g j = (∑ k : Fin 32, g ⟨2 * k.val, by omega⟩) + ∑ k : Fin 32, g ⟨2 * k.val + 1, by omega⟩ := by
  rw [← Finset.sum_add_distrib, ← Equiv.sum_comp (finProdFinEquiv : Fin 32 × Fin 2 ≃ Fin 64), Fintype.sum_prod_type]
  refine Finset.sum_congr rfl fun k _ => ?_
  rw [Fin.sum_univ_two]
  congr 2 <;> apply Fin.ext <;> simp [finProdFinEquiv] <;> omega

/-- A sum over 130 terms: two halves of 64, and two more. -/
theorem sum_130 (g : Fin 130 → EReal) :
    ∑ x, g x = (∑ q : Fin 64, g ⟨q.val, by omega⟩) + ((∑ q : Fin 64, g ⟨64 + q.val, by omega⟩) + (g ⟨128, by omega⟩ + g ⟨129, by omega⟩)) := by
  have h1 := Fin.sum_univ_add (a := 64) (b := 66) g
  have h2 := Fin.sum_univ_add (a := 64) (b := 2) (fun i : Fin 66 => g (Fin.natAdd 64 i))
  rw [h1, h2, Fin.sum_univ_two]
  rfl

/-- A product of two finite numbers is finite. -/
theorem IsFin.mul {x y : EReal} (hx : IsFin x) (hy : IsFin y) : IsFin (x * y) := by
  rw [← EReal.coe_toReal hx.1 hx.2, ← EReal.coe_toReal hy.1 hy.2, ← EReal.coe_mul]
  exact ⟨EReal.coe_ne_top _, EReal.coe_ne_bot _⟩
/-- A sum of finite terms is finite. -/
theorem IsFin.sum {ι : Type} [Fintype ι] (f : ι → EReal) (hf : ∀ i, IsFin (f i)) : IsFin (∑ i, f i) := by
  obtain ⟨g, rfl⟩ : ∃ g : ι → ℝ, f = fun l => (g l : EReal) :=
    ⟨fun l => (f l).toReal, funext fun l => (EReal.coe_toReal (hf l).1 (hf l).2).symm⟩
  rw [← coe_sum]
  exact ⟨EReal.coe_ne_top _, EReal.coe_ne_bot _⟩

/-- Over finite numbers a product distributes over a sum. -/
theorem IsFin.add_mul {x y z : EReal} (hx : IsFin x) (hy : IsFin y) (hz : IsFin z) : (x + y) * z = x * z + y * z := by
  rw [← EReal.coe_toReal hx.1 hx.2, ← EReal.coe_toReal hy.1 hy.2, ← EReal.coe_toReal hz.1 hz.2]
  norm_cast
  ring

/-- The style term: the kernel keeps the even and the odd scalars' mixes in two groups of lanes and multiplies both by the
    embeddings; the reference mixes by all 64 scalars and multiplies once. -/
theorem mix_eq (w : Fin 4096 → EReal) (u : Fin 64 → EReal) (e : Fin 64 → EReal) (hw : ∀ i, IsFin (w i)) (hu : ∀ i, IsFin (u i)) (he : ∀ i, IsFin (e i)) :
    (∑ q : Fin 64, (∑ k : Fin 32, w ⟨128 * k.val + q.val, by omega⟩ * u ⟨2 * k.val, by omega⟩) * e q)
        + (∑ q : Fin 64, (∑ k : Fin 32, w ⟨128 * k.val + (64 + q.val), by omega⟩ * u ⟨2 * k.val + 1, by omega⟩) * e q)
      = ∑ q : Fin 64, (∑ j : Fin 64, w ⟨j.val * 64 + q.val, by omega⟩ * u j) * e q := by
  rw [← Finset.sum_add_distrib]
  refine Finset.sum_congr rfl fun q _ => ?_
  rw [← IsFin.add_mul (IsFin.sum _ fun k => (hw _).mul (hu _)) (IsFin.sum _ fun k => (hw _).mul (hu _)) (he q), sum_even_odd]
  refine congrArg (· * e q) (congrArg₂ (· + ·) (Finset.sum_congr rfl fun k _ => ?_) (Finset.sum_congr rfl fun k _ => ?_))
  · refine congrArg (fun i => w i * u ⟨2 * k.val, by omega⟩) (Fin.ext ?_)
    show 128 * k.val + q.val = 2 * k.val * 64 + q.val
    omega
  · refine congrArg (fun i => w i * u ⟨2 * k.val + 1, by omega⟩) (Fin.ext ?_)
    show 128 * k.val + (64 + q.val) = (2 * k.val + 1) * 64 + q.val
    omega

end Cert.Sums

end
-- ==== Proof.KernelIdeal.Value.lean ====
module

public import proofs.«01_k».proof.Proof.KernelIdeal.Result
public import proofs.«01_k».proof.Proof.Sums

@[expose] public section

set_option maxRecDepth 65536

noncomputable section

/-! # The block at an index -/

namespace Cert.KernelIdeal.Hand

open Cert.KernelIdeal Cert.KernelIdeal.Gen
open Idealize.ShloMosaic Idealize.ShloMosaic.TcCoe Idealize.ShloMosaic.Tactic Cert.Sums

/-! ## One block, index by index, over the extended reals -/

/-- The kernel's comparison of a lane number with 64. -/
theorem lane_lt (q : Fin 128) {α : Type} (a b : α) :
    Scalar.select (IntOp.cmpi CmpIPredicate.slt (BitVec.ofNat 32 q.val) 64#32) a b = if q.val < 64 then a else b := by
  have h : ∀ q : Fin 128, IntOp.cmpi CmpIPredicate.slt (BitVec.ofNat 32 q.val) 64#32 = if q.val < 64 then 1#1 else 0#1 := by decide
  rw [h]
  split
  · rfl
  · rfl

/-- One step of the weight mix at an index. -/
theorem stepW_at (acc : FVec Ideal S512x128 .f32) (a b : Elt Ideal .f32) (w : Vec Ideal S512x128 .f32) (r : Fin 512) (q : Fin 128) :
    stepW acc a b w (ix2 r q) = acc (ix2 r q) + w (ix2 r q) * (if q.val < 64 then a else b) := by
  unfold stepW lanes
  pointwise
  rw [lane_lt]

/-- The weight mix at an index: a sum over the chunks. -/
theorem accW_at (u : Fin 64 → Elt Ideal .f32) (w : Fin 32 → Vec Ideal S512x128 .f32) (r : Fin 512) (q : Fin 128) (n : ℕ) (h : n ≤ 32) :
    accW u w n h (ix2 r q)
      = ∑ k : Fin n, w ⟨k.val, by omega⟩ (ix2 r q) * (if q.val < 64 then u ⟨2 * k.val, by omega⟩ else u ⟨2 * k.val + 1, by omega⟩) := by
  induction n with
  | zero =>
    rw [Finset.univ_eq_empty, Finset.sum_empty]
    show broadcast S512x128 (Scalar.ofBits .f32 0x00000000#32) (ix2 r q) = 0
    pointwise
  | succ k ih =>
    rw [Fin.sum_univ_castSucc]
    exact (stepW_at _ _ _ _ r q).trans (congrArg (· + _) (ih _))

/-- One row of the kernel's product, its 130 terms in their four groups. -/
def kparam (u : Fin 64 → Elt Ideal .f32) (w : Fin 32 → Vec Ideal S512x128 .f32) (vb : Vec Ideal S512x2 .f32)
    (e : Vec Ideal S1x1x64x1024 .f32) (t : Vec Ideal S1x1x1024 .f32) (r : Fin 512) (l : Fin 1024) : EReal :=
  (∑ q : Fin 64, (∑ k : Fin 32, w k (ix2 r (⟨q.val, by omega⟩ : Fin 128)) * u ⟨2 * k.val, by omega⟩) * e (ix4 0 0 q l))
    + ((∑ q : Fin 64, (∑ k : Fin 32, w k (ix2 r (⟨64 + q.val, by omega⟩ : Fin 128)) * u ⟨2 * k.val + 1, by omega⟩) * e (ix4 0 0 q l))
      + (vb (ix2 r 0) * t (ix3 0 0 l) + vb (ix2 r 1)))

/-- The weight mix with its last chunk, at an index. -/
theorem mix_at (u : Fin 64 → Elt Ideal .f32) (w : Fin 32 → Vec Ideal S512x128 .f32) (h : 31 ≤ 32) (r : Fin 512) (q : Fin 128) :
    accW u w 31 h (ix2 r q) + w 31 (ix2 r q) * Scalar.select (IntOp.cmpi CmpIPredicate.slt (BitVec.ofNat 32 q.val) 64#32) (u 62) (u 63)
      = ∑ k : Fin 32, w k (ix2 r q) * (if q.val < 64 then u ⟨2 * k.val, by omega⟩ else u ⟨2 * k.val + 1, by omega⟩) := by
  rw [lane_lt]
  exact (stepW_at (accW u w 31 h) (u 62) (u 63) (w 31) r q).symm.trans (accW_at u w r q 32 (Nat.le_refl 32))

/-- A row of the product, written out as one sum over the 130 columns. -/
theorem row_eq (u : Fin 64 → Elt Ideal .f32) (w : Fin 32 → Vec Ideal S512x128 .f32) (vb : Vec Ideal S512x2 .f32)
    (e : Vec Ideal S1x1x64x1024 .f32) (t : Vec Ideal S1x1x1024 .f32) (r : Fin 512) (l : Fin 1024) (h31 : 31 ≤ 32) :
    (∑ x : Fin 130,
        (if h : x.val < 128 then
            accW u w 31 h31 (ix2 r (⟨x.val, h⟩ : Fin 128))
              + w 31 (ix2 r (⟨x.val, h⟩ : Fin 128)) * Scalar.select (IntOp.cmpi CmpIPredicate.slt (BitVec.ofNat 32 x.val) 64#32) (u 62) (u 63)
          else vb (ix2 r (⟨x.val - 128, by omega⟩ : Fin 2)))
        * (if h : x.val < 64 then e (ix4 0 0 (⟨x.val, h⟩ : Fin 64) l)
          else if h' : x.val - 64 < 64 then e (ix4 0 0 (⟨x.val - 64, h'⟩ : Fin 64) l)
          else if h'' : x.val - 64 - 64 < 1 then t (ix3 0 0 l) else 1) : EReal)
      = kparam u w vb e t r l := by
  rw [sum_130]
  unfold kparam
  refine congrArg₂ (· + ·) (Finset.sum_congr rfl fun q _ => ?_) (congrArg₂ (· + ·) (Finset.sum_congr rfl fun q _ => ?_) (congrArg₂ (· + ·) ?_ ?_))
  · have h1 : q.val < 128 := by omega
    rw [dif_pos h1, dif_pos q.isLt, mix_at u w h31 r ⟨q.val, h1⟩]
    simp only [q.isLt, if_true]
  · have h1 : 64 + q.val < 128 := by omega
    have h2 : ¬ 64 + q.val < 64 := by omega
    have h3 : 64 + q.val - 64 < 64 := by omega
    have h4 : (⟨64 + q.val - 64, h3⟩ : Fin 64) = q := Fin.ext (Nat.add_sub_cancel_left ..)
    rw [dif_pos h1, dif_neg h2, dif_pos h3, h4, mix_at u w h31 r ⟨64 + q.val, h1⟩]
    simp only [h2, if_false]
  · rfl
  · show vb (ix2 r 1) * 1 = vb (ix2 r 1)
    rw [mul_one]

/-- One block at an index: the element's deviation from the row's mean times the reciprocal root of the row's variance, scaled
    by one row of the product and shifted by another. -/
theorem blk_at (x : Vec Ideal S1x1x256x1024 .f32) (u : Fin 64 → Elt Ideal .f32) (w : Fin 32 → Vec Ideal S512x128 .f32) (vb : Vec Ideal S512x2 .f32)
    (e : Vec Ideal S1x1x64x1024 .f32) (t : Vec Ideal S1x1x1024 .f32) (r : Fin 256) (l : Fin 1024) :
    (blk x u w vb e t (ix4 (0 : Fin 1) (0 : Fin 1) r l) : EReal)
      = kparam u w vb e t ⟨r.val, by omega⟩ l
          * ((x (ix4 0 0 r l) - (∑ i, x (ix4 0 0 r i)) * Ideal.ofBits .f32 0x3A800000#32)
            * Ideal.rsqrt ((∑ i, x (ix4 0 0 r i) * x (ix4 0 0 r i)) * Ideal.ofBits .f32 0x3A800000#32
                - (∑ i, x (ix4 0 0 r i)) * Ideal.ofBits .f32 0x3A800000#32 * ((∑ i, x (ix4 0 0 r i)) * Ideal.ofBits .f32 0x3A800000#32)
                + Ideal.ofBits .f32 0x3727C5AC#32))
        + kparam u w vb e t ⟨256 + r.val, by omega⟩ l := by
  rw [← row_eq u w vb e t _ l (by omega), ← row_eq u w vb e t _ l (by omega)]
  unfold blk
  unfold_payloads
  pointwise

/-! ## The two extra columns of the weights -/

/-- `V`, and the bias with one added to its first 256 rows, side by side. -/
def cols (V : FVec Ideal S512x1 .f32) (bb : FVec Ideal S512 .f32) : FVec Ideal S512x2 .f32 :=
  concatenate S512x2 1 [⟨S512x1, V⟩, ⟨S512x1, addf (broadcastInDim S512x1 ![0] bcast_S512_S512x1_0 bb)
    (broadcastInDim S512x1 ![0] bcast_S512_S512x1_0 (uitofp .f32 (cmpi .slt (iotaInDim S512 32 0) (broadcastInDim S512 ![] bcast_S_S512 (constantI S_ 32 256#32)))))⟩]
    concatenates_S512x1_S512x1_S512x2_d1

/-- The first extra column is `V`. -/
theorem cols_zero (V : FVec Ideal S512x1 .f32) (bb : FVec Ideal S512 .f32) (r : Fin 512) : cols V bb (ix2 r 0) = V (ix2 r 0) := by
  unfold cols
  pointwise

/-- The comparison of a row number with 256, as a number. -/
theorem row_lt (r : Fin 512) : (FloatOps.uitofp (F := Ideal) FTy.f32 (IntOp.cmpi CmpIPredicate.slt (BitVec.ofNat 32 r.val) 256#32) : EReal)
    = if r.val < 256 then 1 else 0 := by
  have h : ∀ r : Fin 512, IntOp.cmpi CmpIPredicate.slt (BitVec.ofNat 32 r.val) 256#32 = if r.val < 256 then 1#1 else 0#1 := by decide
  rw [h]
  split
  · show (((1#1).toNat : ℝ) : EReal) = 1
    simp
  · show (((0#1).toNat : ℝ) : EReal) = 0
    simp

/-- The second extra column is the bias, plus one on the first 256 rows. -/
theorem cols_one (V : FVec Ideal S512x1 .f32) (bb : FVec Ideal S512 .f32) (r : Fin 512) :
    (cols V bb (ix2 r 1) : EReal) = bb (ix1 r) + (if r.val < 256 then 1 else 0) := by
  unfold cols
  pointwise
  rw [row_lt]

end Cert.KernelIdeal.Hand

end
-- ==== Proof.RefValue.lean ====
module

public import proofs.«01_k».proof.Proof.Gen.ReferenceIdeal.Run
public import proofs.«01_k».proof.Proof.Gen.Pre_finite
public import proofs.«01_k».proof.Proof.Sums
public import Idealize.ShloMosaic.Lib.ReduceAll

@[expose] public section

set_option maxRecDepth 65536

noncomputable section

/-! # The reference at an index, and what the precondition says -/

namespace Cert.RefValue

open Idealize.ShloMosaic Idealize.ShloMosaic.TcCoe Idealize.ShloMosaic.Tactic Cert.Sums

section
open Cert.ReferenceIdeal Cert.ReferenceIdeal.Gen

/-- One row of the parameters: the style term, the time term and the bias. -/
def param (u : FVec Ideal S16x64 .f32) (e : FVec Ideal S16x64x1024 .f32) (t : FVec Ideal S16x1x1024 .f32)
    (W : FVec Ideal S512x4096 .f32) (V : FVec Ideal S512x1 .f32) (bb : FVec Ideal S512 .f32) (b : Fin 16) (r : Fin 512) (l : Fin 1024) : EReal :=
  (∑ q : Fin 64, (∑ j : Fin 64, W (ix2 r (⟨j.val * 64 + q.val, by omega⟩ : Fin 4096)) * u (ix2 b j)) * e (ix3 b q l))
    + V (ix2 r 0) * t (ix3 b 0 l) + bb (ix1 r)

/-- One normalised element of `x`: its deviation from the row's mean, over the square root of the row's variance. -/
def normed (x : FVec Ideal S16x256x1024 .f32) (b : Fin 16) (r : Fin 256) (l : Fin 1024) : EReal :=
  (x (ix3 b r l) - Ideal.div (∑ i, x (ix3 b r i)) (Ideal.ofBits .f32 0x44800000#32))
    * Ideal.rsqrt (Ideal.div (∑ i, (x (ix3 b r i) - Ideal.div (∑ i, x (ix3 b r i)) (Ideal.ofBits .f32 0x44800000#32))
        * (x (ix3 b r i) - Ideal.div (∑ i, x (ix3 b r i)) (Ideal.ofBits .f32 0x44800000#32))) (Ideal.ofBits .f32 0x44800000#32)
      + Ideal.ofBits .f32 0x3727C5AC#32)

/-- The reference's term of its seven arguments. -/
def term (x : FVec Ideal S16x256x1024 .f32) (u : FVec Ideal S16x64 .f32) (e : FVec Ideal S16x64x1024 .f32) (t : FVec Ideal S16x1x1024 .f32)
    (W : FVec Ideal S512x4096 .f32) (V : FVec Ideal S512x1 .f32) (bb : FVec Ideal S512 .f32) : FVec Ideal S16x256x1024 .f32 :=
  addf (mulf (addf (broadcastInDim S16x256x1024 ![] bcast_S_S16x256x1024 (constant S_ .f32 0x3F800000#32)) (extractStridedSlice S16x256x1024 ![0, 0, 0] (addf (addf (Host.dotGeneral dot_S512x64x16_S16x64x1024_S16x512x1024_1_1_0_2_2_0 none (Host.dotGeneral dot_S512x64x64_S16x64_S512x64x16_1_1_02_0_n_n none (shapeCast _ W shapeCasts_S512x4096_S512x64x64) u) e) (transpose S16x512x1024 [1, 0, 2] (Host.dotGeneral dot_S512x1_S16x1x1024_S512x16x1024_1_1_0_02_n_n none V t) transposes_S512x16x1024_S16x512x1024_1_0_2)) (broadcastInDim S16x512x1024 ![0, 1, 2] bcast_S1x512x1_S16x512x1024_0_1_2 (broadcastInDim S1x512x1 ![1] bcast_S512_S1x512x1_1 bb))) slices_S16x512x1024_S16x256x1024_0_0_0)) (mulf (subf x (broadcastInDim S16x256x1024 ![0, 1, 2] bcast_S16x256x1_S16x256x1024_0_1_2 (Host.divf (broadcastInDim S16x256x1 ![0, 1] bcast_S16x256_S16x256x1_0_1 (Host.reduceAdd x (constant S_ .f32 0x00000000#32) reducesTo_S16x256x1024_S16x256_d2 h_S_)) (broadcastInDim S16x256x1 ![] bcast_S_S16x256x1 (constant S_ .f32 0x44800000#32))))) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (subf x (broadcastInDim S16x256x1024 ![0, 1, 2] bcast_S16x256x1_S16x256x1024_0_1_2 (Host.divf (broadcastInDim S16x256x1 ![0, 1] bcast_S16x256_S16x256x1_0_1 (Host.reduceAdd x (constant S_ .f32 0x00000000#32) reducesTo_S16x256x1024_S16x256_d2 h_S_)) (broadcastInDim S16x256x1 ![] bcast_S_S16x256x1 (constant S_ .f32 0x44800000#32))))) (subf x (broadcastInDim S16x256x1024 ![0, 1, 2] bcast_S16x256x1_S16x256x1024_0_1_2 (Host.divf (broadcastInDim S16x256x1 ![0, 1] bcast_S16x256_S16x256x1_0_1 (Host.reduceAdd x (constant S_ .f32 0x00000000#32) reducesTo_S16x256x1024_S16x256_d2 h_S_)) (broadcastInDim S16x256x1 ![] bcast_S_S16x256x1 (constant S_ .f32 0x44800000#32)))))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x3727C5AC#32))))))) (extractStridedSlice S16x256x1024 ![0, 256, 0] (addf (addf (Host.dotGeneral dot_S512x64x16_S16x64x1024_S16x512x1024_1_1_0_2_2_0 none (Host.dotGeneral dot_S512x64x64_S16x64_S512x64x16_1_1_02_0_n_n none (shapeCast _ W shapeCasts_S512x4096_S512x64x64) u) e) (transpose S16x512x1024 [1, 0, 2] (Host.dotGeneral dot_S512x1_S16x1x1024_S512x16x1024_1_1_0_02_n_n none V t) transposes_S512x16x1024_S16x512x1024_1_0_2)) (broadcastInDim S16x512x1024 ![0, 1, 2] bcast_S1x512x1_S16x512x1024_0_1_2 (broadcastInDim S1x512x1 ![1] bcast_S512_S1x512x1_1 bb))) slices_S16x512x1024_S16x256x1024_0_256_0)

/-- The reference at an index: the normalised element, scaled by one plus its scale parameter, plus its shift parameter. -/
theorem term_at (x : FVec Ideal S16x256x1024 .f32) (u : FVec Ideal S16x64 .f32) (e : FVec Ideal S16x64x1024 .f32) (t : FVec Ideal S16x1x1024 .f32)
    (W : FVec Ideal S512x4096 .f32) (V : FVec Ideal S512x1 .f32) (bb : FVec Ideal S512 .f32) (b : Fin 16) (r : Fin 256) (l : Fin 1024) :
    term x u e t W V bb (ix3 b r l)
      = (1 + param u e t W V bb b ⟨r.val, by omega⟩ l) * normed x b r l + param u e t W V bb b ⟨256 + r.val, by omega⟩ l := by
  unfold term param normed
  pointwise
  simp only [Fin.sum_univ_one]
end

section
open Cert.Pre_finite

/-- The absolute value of a number is below infinity only if the number is finite. -/
theorem isFin_of_abs {x : Ideal .f32} (h : FloatOps.cmpf .olt (FloatOps.hostAbsf x) (FloatOps.ofBits (F := Ideal) .f32 0x7F800000#32) = 1#1) : IsFin x := by
  have h1 : max (x : EReal) (-(x : EReal)) < ⊤ := by
    rw [← inf_eq]
    by_contra hn
    have : BitVec.ofBool (decide (max (x : EReal) (-(x : EReal)) < Ideal.ofBits .f32 0x7F800000#32)) = 1#1 := h
    rw [decide_eq_false hn] at this
    exact absurd this (by decide)
  rw [max_lt_iff] at h1
  refine ⟨h1.1.ne, fun hb => h1.2.ne ?_⟩
  rw [hb]
  rfl

/-- What the precondition says: `x`, the scalars, the embeddings and the weights are finite. -/
theorem finite_of_pre (x : FVec Ideal S16x256x1024 .f32) (u : FVec Ideal S16x64 .f32) (e : FVec Ideal S16x64x1024 .f32) (t : FVec Ideal S16x1x1024 .f32)
    (W : FVec Ideal S512x4096 .f32) (V : FVec Ideal S512x1 .f32) (bb : FVec Ideal S512 .f32) (h : fn (F := Ideal) x u e t W V bb ix0 = 1#1) :
    (∀ i, IsFin (x i)) ∧ (∀ i, IsFin (u i)) ∧ (∀ i, IsFin (e i)) ∧ (∀ i, IsFin (W i)) := by
  unfold fn fn_part1 at h
  dsimp only at h
  obtain ⟨h3, hW⟩ := IntOp.andi_eq_one.1 h
  obtain ⟨h2, he⟩ := IntOp.andi_eq_one.1 h3
  obtain ⟨hx, hu⟩ := IntOp.andi_eq_one.1 h2
  haveI : Subsingleton S_.Idx := ⟨fun a b => funext fun d => absurd d.isLt (Nat.not_lt_zero _)⟩
  exact ⟨fun i => isFin_of_abs (Host.reduce_andi_all _ _ _ _ _ hx i), fun i => isFin_of_abs (Host.reduce_andi_all _ _ _ _ _ hu i),
    fun i => isFin_of_abs (Host.reduce_andi_all _ _ _ _ _ he i), fun i => isFin_of_abs (Host.reduce_andi_all _ _ _ _ _ hW i)⟩
end

end Cert.RefValue

end
-- ==== Proof.Equal.lean ====
module

public import proofs.«01_k».proof.Proof.KernelIdeal.Value
public import proofs.«01_k».proof.Proof.RefValue

@[expose] public section

set_option maxRecDepth 65536

noncomputable section

/-! # Kernel and reference compute the same array -/

namespace Cert.Equal

open Idealize.ShloMosaic Idealize.ShloMosaic.TcCoe Idealize.ShloMosaic.Tactic Cert.Sums Cert.RefValue
open Cert.KernelIdeal Cert.KernelIdeal.Gen Cert.KernelIdeal.Hand

variable (x : FVec Ideal S16x256x1024 .f32) (u : FVec Ideal S16x64 .f32) (e : FVec Ideal S16x64x1024 .f32) (t : FVec Ideal S16x1x1024 .f32)
    (W : FVec Ideal S512x4096 .f32) (V : FVec Ideal S512x1 .f32) (bb : FVec Ideal S512 .f32)

/-- A row of the kernel's product is the reference's parameter, plus one on the first 256 rows. -/
theorem kparam_eq (hu : ∀ i, IsFin (u i)) (he : ∀ i, IsFin (e i)) (hW : ∀ i, IsFin (W i)) (b : Fin 16) (r : Fin 512) (l : Fin 1024) :
    kparam (fun k => u (ix2 b k))
        (fun k i => W (ix2 (i 0) (⟨128 * k.val + (i 1).val, by have h : (i 1).val < 128 := (i 1).isLt; omega⟩ : Fin 4096))) (cols V bb)
        (fun i => e (ix3 b (i 2) (i 3))) (fun i => t (ix3 b 0 (i 2))) r l
      = param u e t W V bb b r l + (if r.val < 256 then 1 else 0) := by
  unfold kparam param
  rw [cols_zero, cols_one, ← add_assoc, ← add_assoc, ← add_assoc]
  refine congrArg (· + _) (congrArg (· + _) (congrArg (· + _) ?_))
  exact mix_eq (fun i => W (ix2 r i)) (fun k => u (ix2 b k)) (fun q => e (ix3 b q l)) (fun _ => hW _) (fun _ => hu _) (fun _ => he _)

/-- The kernel's result is the reference's, where `x`, the scalars, the embeddings and the weights are finite. -/
theorem whole_eq (hx : ∀ i, IsFin (x i)) (hu : ∀ i, IsFin (u i)) (he : ∀ i, IsFin (e i)) (hW : ∀ i, IsFin (W i)) :
    whole (F := Ideal) u x e t W (cols V bb) = term x u e t W V bb := by
  refine funext fun y => ?_
  obtain ⟨b, r, l, rfl⟩ : ∃ (b : Fin 16) (r : Fin 256) (l : Fin 1024), y = ix3 b r l := ⟨y 0, y 1, y 2, eq_ix3 y⟩
  rw [whole_at, term_at]
  unfold blkOf
  refine (blk_at _ _ _ _ _ _ r l).trans ?_
  rw [kparam_eq u e t W V bb hu he hW, kparam_eq u e t W V bb hu he hW, if_pos (show (⟨r.val, by omega⟩ : Fin 512).val < 256 from r.isLt),
    if_neg (show ¬ (⟨256 + r.val, by omega⟩ : Fin 512).val < 256 from by show ¬ 256 + r.val < 256; omega), add_zero, add_comm (1 : EReal)]
  congr 2
  exact norm_eq (fun i => x (ix3 b r i)) (fun _ => hx _) _ l

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Kernel.Frame
public import proofs.«01_k».proof.Proof.KernelIdeal.Frame
public import proofs.«01_k».proof.Proof.KernelIdeal.Result
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The idealized kernel ends with its arguments unchanged and every counter at zero. -/
theorem frame_KernelIdeal : Cert.quiescent_KernelIdeal := fun m g _ =>
  (θ_run _ _ _).mono (fun _ h => ⟨fun c => (h.1 c).2, h.2⟩) (Cert.KernelIdeal.Hand.run m g (Cert.KernelIdeal.Hand.G m) (Cert.KernelIdeal.Hand.leaves m))

/-- The reference ends with its arguments unchanged and every counter at zero: it declares no semaphore. -/
theorem frame_ReferenceIdeal : Cert.quiescent_ReferenceIdeal := fun m g _ =>
  (θ_run _ _ _).mono (fun r h => ⟨fun c => (h c).2, sem_eq_zero_of_no_sems (by decide) r.2⟩) (Cert.ReferenceIdeal.Value.run (F := Ideal) m g)

/-- Where the finiteness precondition holds, the idealized kernel and the reference leave the same result. -/
theorem algebraic : Cert.algebraic_KernelIdeal_ReferenceIdeal_pre_finite := by
  intro m g m' g' hpre hagree
  refine ⟨fun c => Cert.KernelIdeal.Hand.G m c, ?_, ?_⟩
  · exact (θ_run _ _ _).mono (fun _ h => h.1) (Cert.KernelIdeal.Hand.run m g (Cert.KernelIdeal.Hand.G m) (Cert.KernelIdeal.Hand.leaves m))
  · refine (θ_run _ _ _).mono (fun _ h c => ⟨(h c).1.trans ?_, (h c).2⟩) (Cert.ReferenceIdeal.Value.run (F := Ideal) m' g')
    obtain ⟨h0, h1, h2, h3, h4, h5, h6⟩ := hagree c
    obtain ⟨hx, hu, he, hW⟩ := Cert.RefValue.finite_of_pre _ _ _ _ _ _ _ (congrFun (hpre c) _)
    refine Eq.trans ?_ ((Cert.Equal.whole_eq _ _ _
      (m ((c.tc : Thread Cert.KernelIdeal.nD Cert.KernelIdeal.τ).loc Cert.KernelIdeal.main_arg3)) _
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) hx hu he hW).symm.trans ?_)
    · rw [h0, h1, h2, h3, h4, h5, h6]
      rfl
    · exact congrArg (Cert.KernelIdeal.Hand.whole _ _ _ _ _) (Cert.KernelIdeal.Hand.V_v7 m c).symm

/-- Every claim of this certificate. -/
theorem claim : Cert.Claim :=
  ⟨Cert.Kernel.Gen.facts, Cert.KernelIdeal.Gen.facts, Cert.ReferenceIdeal.Gen.facts, Cert.Pre_finite.Gen.facts,
    fun m g _ => Cert.Kernel.Hand.frame m g, frame_KernelIdeal, fun m g _ => frame_KernelIdeal m g trivial,
    frame_ReferenceIdeal, fun m g _ => frame_ReferenceIdeal m g trivial, trivial, algebraic⟩

end Cert.Proof

end
